-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 1024]⟩ ⟨2, ![1, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S4x512x1024 : Shape := ⟨3, ![4, 512, 1024]⟩
abbrev S2x1x1024 : Shape := ⟨3, ![2, 1, 1024]⟩
abbrev S4 : Shape := ⟨1, ![4]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1024 : Shape := ⟨1, ![1024]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S1x1024, .bf16⟩
  | .local _ .vmem, ⟨0, _⟩ => ⟨S1x1024, .bf16⟩
  | .local _ .vmem, ⟨1, _⟩ => ⟨S4x512x1024, .bf16⟩
  | .local _ .vmem, ⟨2, _⟩ => ⟨S2x1x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_86 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_85 : BitVec 32 := 2#32
  let v89 : BitVec 32 := Scalar.muli v6 c2_i32_85
  let v90 : BitVec 32 := Scalar.addi c0_i32_86 v89
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_87 : BitVec 32 := 1#32
  let v91 : BitVec 32 := Scalar.muli v5 c1_i32_87
  let v92 : BitVec 32 := Scalar.addi v90 v91
  v92.toNat
abbrev stage0_0 : Fin 1 → Memref sig .tc .vmem S1x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x2048 : Shape := ⟨2, ![4096, 2048]⟩
abbrev S_ : Shape := ⟨0, ![]⟩
abbrev S2048 : Shape := ⟨1, ![2048]⟩
abbrev S1x2048 : Shape := ⟨2, ![1, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S_, .bf16⟩
  | .hbm, ⟨2, _⟩ => ⟨S2048, .bf16⟩
  | .hbm, ⟨3, _⟩ => ⟨S1x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Protocol.lean ====
/-
# `Protocol`: how the two devices of a column exchange their maxima

The mesh is 2×2 and every device meets exactly one other one, the device in the other row of its mesh column
(`across`). Each device says when its landing slot may be written, by raising the other's barrier semaphore; the other
then copies its own column maximum into that slot. Three semaphores of a device take part, named by `Role`:

* `gate`, the barrier semaphore: raised once by the device across, which thereby hands over its landing slot;
* `sent`, the copy's own semaphore at the sender: gives the sender its slot back;
* `came`, the copy's semaphore at the receiver: gives the receiver its landing slot, now filled.

Everything here is stated for an arbitrary row `V c` that device `c` is to send; the body fixes it.
-/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.ColMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state: the pipeline's rounds, the exchange's rounds, and the local copies' counters -/

abbrev UX : Type := URounds (GSem nD τ sig) Unit
abbrev UA : Type := UR sig nD τ × (UX × Counters)

local notation "𝕄" => MT nD τ sig Unit (Elt F) ℕ UA ℕ

abbrev Ep : Emb (UR sig nD τ) (MT nD τ sig Unit (Elt F) ℕ UA ℕ) := embL
abbrev Ex : Emb UX (MT nD τ sig Unit (Elt F) ℕ UA ℕ) := (Emb.inl : Emb UX (UX × Counters)).trans embR

/-! ## Who meets whom -/

/-- The device in the same mesh column and the other mesh row. -/
def across (c : Dev nD) : Dev nD := ⟨(c.val + 2) % 4, Nat.mod_lt _ (by decide)⟩

theorem across_across (c : Dev nD) : across (across c) = c := by revert c; decide

/-- Swapping the two rows is a bijection of the mesh. -/
def swapRows : Dev nD ≃ Dev nD := ⟨across, across, across_across, across_across⟩

theorem across_val (c : Dev nD) : c.val % 2 + 2 - 2 * (c.val / 2) = (across c).val := by revert c; decide

/-- The device the signal names, -/
theorem signal_to (c : Dev nD) : (⟨k0_dev1 c, k0_dev1_lt c⟩ : Dev nD) = across c :=
  Fin.ext ((k0_dev1_eq c).trans (across_val c))
/-- and the device the copy names. -/
theorem copy_to (c : Dev nD) : (⟨k0_dev2 c, k0_dev2_lt c⟩ : Dev nD) = across c :=
  Fin.ext ((k0_dev2_eq c).trans (across_val c))

/-! ## The two slots -/

/-- The two-slot buffer as a whole. -/
abbrev slots : Memref sig .tc .vmem S2x1x1024 .bf16 := Memref.whole cc0_scratch1

/-- The rectangles of the two slots, -/
abbrev nearR : Rect S2x1x1024 := Rect.unit (s := S2x1x1024) ![0, 0, 0] S1x1x1024.size inb_S2x1x1024_S1x1x1024_0_0_0
abbrev farR : Rect S2x1x1024 := Rect.unit (s := S2x1x1024) ![1, 0, 0] S1x1x1024.size inb_S2x1x1024_S1x1x1024_1_0_0

/-- and the slots as rows: `near` holds the device's own maximum, `far` receives the other's. -/
abbrev near : Memref sig .tc .vmem S1x1024 .bf16 := (slots.slice nearR (fun _ => rfl)).squeeze S1x1024 squeezes_S1x1x1024_S1x1024
abbrev far : Memref sig .tc .vmem S1x1024 .bf16 := (slots.slice farR (fun _ => rfl)).squeeze S1x1024 squeezes_S1x1x1024_S1x1024

/-- A row of bfloat16 numbers, as a slot holds it. -/
abbrev Row (F : FTy → Type) [FloatOps F] : Type := S1x1024.Idx → Elt F .bf16

/-! ## The semaphores -/

/-- The three parts a semaphore may take in the exchange. -/
inductive Role where
  | gate | sent | came
  deriving DecidableEq

instance : Fintype Role := ⟨{.gate, .sent, .came}, fun r => by cases r <;> decide⟩

/-- The barrier semaphore, and the semaphores of the copy at its two ends. -/
abbrev gateS : Sem sig := (SemArray.scalar (sig.barrier 0 rfl) : Sems sig S_).sem
abbrev sentS : DmaSem sig := cc0_scratch3.sem
abbrev cameS : DmaSem sig := cc0_scratch4.sem

/-- The semaphore of a role, -/
abbrev semOf : Role → SemLoc sig
  | .gate => .reg gateS
  | .sent => .dma sentS
  | .came => .dma cameS

/-- and the role of a semaphore, if it has one. -/
def role : SemLoc sig → Option Role
  | .reg _ => some .gate
  | .dma q => if q = sentS then some .sent else if q = cameS then some .came else none

theorem role_semOf (r : Role) : role (semOf r) = some r := by cases r <;> decide

/-- Device `c`'s semaphore of a role. -/
abbrev cell (c : Dev nD) (r : Role) : GSem nD τ sig := ((c : Thread nD τ), semOf r)

theorem cell_inj {c c' : Dev nD} {r r' : Role} (h : cell c r = cell c' r') : c = c' ∧ r = r' := by
  refine ⟨congrArg (fun g : GSem nD τ sig => g.1.1) h, ?_⟩
  have := congrArg (fun g : GSem nD τ sig => role g.2) h
  simpa only [role_semOf, Option.some.injEq] using this

/-- What one copy of a row credits. -/
abbrev N : ℕ := far.view.dmaCredit
theorem N_pos : 0 < N := View.dmaCredit_pos _ (by decide)

/-- What a unit of a role's duty is worth: the signal counts one, the copy its credit. -/
def worth : Role → ℕ
  | .gate => 1
  | _ => N

theorem worth_pos (r : Role) : 0 < worth r := by cases r <;> first | exact Nat.one_pos | exact N_pos

/-! ## The schedule -/

variable (V : Dev nD → Row F)

/-- What device `c` gets when the semaphore of a role is drained. -/
def gift (c : Dev nD) : Role → sProp 𝕄
  | .gate => iprop((∃ v, owns ((across c : Dev nD) : Thread nD τ) far fullShare v) ∗ reached Ex (cell (across c) .came) 0)
  | .sent => owns (c : Thread nD τ) near fullShare (V c)
  | .came => owns (c : Thread nD τ) far fullShare (V (across c))

instance gift_storable (c : Dev nD) (r : Role) : BI.Storable (upEmb : UEmb _ 𝕄) (gift V c r) := by
  cases r <;> (unfold gift; infer_instance)

/-- One round: each of the three semaphores of a device is paid once. -/
def plan : Rounds.Schedule (GSem nD τ sig) Unit 𝕄 where
  duties g r := if r = 0 ∧ g.1.2 = .tc ∧ (role g.2).isSome then {()} else ∅
  unitless _ := False
  amount g _ _ := (role g.2).elim 1 worth
  payload g _ _ := (role g.2).elim iprop(emp) (gift V g.1.1)
  amount_pos g _ _ _ := by
    cases h : role g.2 with
    | none => exact Nat.one_pos
    | some r => exact worth_pos r

instance plan_storable (g : GSem nD τ sig) (r : ℕ) (d : Unit) : BI.Storable (upEmb : UEmb _ 𝕄) ((plan V).payload g r d) := by
  show BI.Storable upEmb ((role g.2).elim iprop(emp) (gift V g.1.1))
  cases role g.2 <;> (dsimp only [Option.elim]; infer_instance)

theorem plan_duties (c : Dev nD) (r : Role) : (plan V).duties (cell c r) 0 = {()} := by
  dsimp only [plan]; rw [role_semOf]; exact if_pos ⟨rfl, rfl, rfl⟩

theorem plan_mem (c : Dev nD) (r : Role) : () ∈ (plan V).duties (cell c r) 0 := by
  rw [plan_duties]; exact Finset.mem_singleton_self _

theorem plan_after (g : GSem nD τ sig) : ∀ n, 1 ≤ n → (plan V).duties g n = ∅ := fun n hn => by
  dsimp only [plan]; exact if_neg fun h => absurd h.1 (Nat.one_le_iff_ne_zero.mp hn)

theorem plan_amount (c : Dev nD) (r : Role) : (plan V).amount (cell c r) 0 () = worth r := by
  dsimp only [plan]; rw [role_semOf]; rfl

theorem plan_payload (c : Dev nD) (r : Role) : (plan V).payload (cell c r) 0 () = gift V c r := by
  dsimp only [plan]; rw [role_semOf]; rfl

theorem plan_expect (c : Dev nD) (r : Role) : (plan V).expect (cell c r) 0 = worth r := by
  unfold Schedule.expect Schedule.amountOf; rw [plan_duties, Finset.sum_singleton, plan_amount]

theorem plan_rest (c : Dev nD) (r : Role) :
    bigSep ((plan V).duties (cell c r) 0 \ ∅) (fun d => (plan V).payload (cell c r) 0 d) = gift V c r := by
  rw [Finset.sdiff_empty, plan_duties, bigSep_singleton, plan_payload]

/-! ## What is owed at the start, and in which order things may be waited for -/

/-- Device `c` owes the device across the filling of its landing slot and one unit of its barrier. -/
def debt (c : Dev nD) : CellTallies nD τ sig Unit := tallyAt (cell (across c) .came) () N + tallyAt (cell (across c) .gate) () 1

/-- Every semaphore of a TensorCore has the one level. -/
def L (g : GSem nD τ sig) : Finset Unit := if g.1.2 = .tc then {()} else ∅

/-- First everything local, then the barriers, then the arrivals. -/
def height : Role → ℕ
  | .gate => 1
  | .sent => 0
  | .came => 2

/-- The level of a semaphore: its role's, or the lowest. -/
def lv (g : GSem nD τ sig) (_ : Unit) : ℕ := (role g.2).elim 0 height

theorem lv_cell (c : Dev nD) (r : Role) : lv (cell c r) () = height r := by unfold lv; rw [role_semOf]; rfl

theorem L_other (g : GSem nD τ sig) (h : g.1.2 ≠ .tc) : L g = ∅ := if_neg h
theorem L_own (c : Dev nD) (sm : SemLoc sig) : () ∈ L ((c : Thread nD τ), sm) := by
  unfold L; rw [if_pos rfl]; exact Finset.mem_singleton_self _

theorem debt_pos {c : Dev nD} {g : GSem nD τ sig} {u : Unit} (h : 0 < debt c g u) :
    g = cell (across c) .came ∨ g = cell (across c) .gate := by
  unfold debt at h
  rw [Pi.add_apply, Finsupp.add_apply, tallyAt_apply, tallyAt_apply] at h
  by_contra hn
  rw [not_or] at hn
  rw [if_neg fun k => hn.1 k.1, if_neg fun k => hn.2 k.1] at h
  exact Nat.lt_irrefl 0 h

theorem came_pos {c : Dev nD} {n : ℕ} {g : GSem nD τ sig} {u : Unit} (h : 0 < (tallyAt (cell c .came) () n : CellTallies nD τ sig Unit) g u) :
    g = cell c .came := by
  rw [tallyAt_apply] at h
  by_contra hn
  rw [if_neg fun k => hn k.1] at h
  exact Nat.lt_irrefl 0 h

/-- A wait at a level below everything owed is allowed. -/
theorem may_wait_of (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp]; exact L_own c sm)
    (fun g u hg => by unfold L; rw [if_pos (h g u hg).1]; exact Finset.mem_singleton_self _)
    (fun p hp => by rw [Finset.mem_singleton.mp hp])
    (fun g u hg => (h g u hg).2)

/-- A copy semaphore that plays no part in the exchange may be waited for while the whole debt stands, -/
theorem may_wait_debt (c : Dev nD) (q : DmaSem sig) (hq : lv ((c : Thread nD τ), .dma q) () = 0) :
    (levAts L lv : sProp 𝕄) ⊢ MayWait (c : Thread nD τ) (.dma q) () (debt c) :=
  may_wait_of c _ _ fun g u hg => by
    rcases debt_pos hg with rfl | rfl <;> rw [hq, lv_cell] <;> exact ⟨rfl, by decide⟩

/-- or while only the filling of the other's slot is owed; -/
theorem may_wait_copy (c : Dev nD) (q : DmaSem sig) (hq : lv ((c : Thread nD τ), .dma q) () = 0) :
    (levAts L lv : sProp 𝕄) ⊢ MayWait (c : Thread nD τ) (.dma q) () (tallyAt (cell (across c) .came) () N) :=
  may_wait_of c _ _ fun g u hg => by
    rw [came_pos hg, hq, lv_cell]; exact ⟨rfl, by decide⟩

/-- so may the barrier then. -/
theorem may_wait_gate (c : Dev nD) :
    (levAts L lv : sProp 𝕄) ⊢ MayWait (c : Thread nD τ) (.reg gateS) () (tallyAt (cell (across c) .came) () N) :=
  may_wait_of c _ _ fun g u hg => by
    rw [came_pos hg]; exact ⟨rfl, by rw [lv_cell c .gate, lv_cell]; decide⟩

end Cert.ColMax

end
-- ==== Proof.Pieces.lean ====
module

public import proofs.«01_k».proof.Proof.Protocol
public import proofs.«01_k».proof.Proof.Gen.KernelIdeal.Skeleton
public import Idealize.ShloMosaic.Lib.ValueIdxCore

@[expose] public section

/-!
What the loads of the run read. The block is copied piece by piece into a buffer of four slots; a load of slot `k`
reads what was copied there, whatever was copied into the other slots.
-/

noncomputable section

namespace Cert.ColMax

open Cert.KernelIdeal Cert.KernelIdeal.Gen

open Idealize.ShloMosaic
open Idealize.ShloMosaic.TcCoe
open Idealize.ShloMosaic.ValueIdx

variable {F : FTy → Type} [FloatOps F]

/-- The device's block in HBM. -/
abbrev block : Memref sig .tc .hbm S2048x1024 .bf16 := Memref.whole main_arg0

/-- The buffer of four slots the block's pieces are copied into. -/
abbrev pieces : Memref sig .tc .vmem S4x512x1024 .bf16 := Memref.whole cc0_scratch0

/-- Piece `k` of the block `x`: its rows `512 k` to `512 k + 511`, under a leading axis of length one. -/
def piece (x : S2048x1024.Idx → Elt F .bf16) (k : Fin 4) : S1x512x1024.Idx → Elt F .bf16 := fun i =>
  x (ix2 ⟨512 * k.val + (i 1).val, by have := k.isLt; have : (i 1).val < 512 := (i 1).isLt; omega⟩ (i 2))

/-- Slot `k` of the buffer as a matrix. -/
abbrev slotAt (k : ℕ) (hk : ∀ a, ![k, 0, 0] a + S1x512x1024.size a ≤ S4x512x1024.size a) :
    Memref sig .tc .vmem S512x1024 .bf16 :=
  (pieces.slice (Rect.unit (s := S4x512x1024) ![k, 0, 0] S1x512x1024.size hk) (fun _ => rfl)).squeeze S512x1024 squeezes_S1x512x1024_S512x1024

/-- A load of slot `k` right after a copy into it reads the copied matrix. -/
theorem load_hit (k : ℕ) (hk) (f : S4x512x1024.Idx → Elt F .bf16) (w : S512x1024.Idx → Elt F .bf16) :
    View.readAt (Elt F) pieces.view (Rect.unit (s := S4x512x1024) ![k, 0, 0] S1x512x1024.size hk).toLoadRect
        (View.write (Elt F) (slotAt k hk).view f w Finset.univ) = fun i => w (ix2 (i 1) (i 2)) := by
  funext i
  refine Eq.trans ?_ (congrFun (View.read_write_univ (v := (slotAt k hk).view) f w) (ix2 (i 1) (i 2)))
  refine congrArg (View.write (Elt F) (slotAt k hk).view f w Finset.univ) ?_
  show (Rect.unit (s := S4x512x1024) ![k, 0, 0] S1x512x1024.size hk).emb i
    = (Rect.unit (s := S4x512x1024) ![k, 0, 0] S1x512x1024.size hk).emb (Shape.reshapeEquiv _ (ix2 (i 1) (i 2)))
  congr 1
  symm
  refine Shape.reshapeEquiv_eq_of_rowMajor _ ?_
  rw [Shape.rowMajor_val_three, Shape.rowMajor_val_two]
  show ((i 0).val * 512 + (i 1).val) * 1024 + (i 2).val = (i 1).val * 1024 + (i 2).val
  have : (i 0).val < 1 := (i 0).isLt
  omega

/-- A load of slot `k` does not see a copy into another slot. -/
theorem load_miss (k j : ℕ) (hkj : k ≠ j) (hk) (hj) (f : S4x512x1024.Idx → Elt F .bf16) (w : S512x1024.Idx → Elt F .bf16) :
    View.readAt (Elt F) pieces.view (Rect.unit (s := S4x512x1024) ![k, 0, 0] S1x512x1024.size hk).toLoadRect
        (View.write (Elt F) (slotAt j hj).view f w Finset.univ)
      = View.readAt (Elt F) pieces.view (Rect.unit (s := S4x512x1024) ![k, 0, 0] S1x512x1024.size hk).toLoadRect f := by
  funext i
  refine View.write_of_not_mem (v := (slotAt j hj).view) f w Finset.univ fun hm => hkj ?_
  obtain ⟨y, -, hy⟩ := Finset.mem_map.mp hm
  have h0 := congrArg (fun z : S4x512x1024.Idx => (z 0).val) hy
  have hz : ((Shape.reshapeEquiv (s := S1x512x1024) (s' := S512x1024) (by decide) y) 0).val < 1 := Fin.isLt _
  have hi : (i 0).val < 1 := (i 0).isLt
  have h1 : j + 1 * ((Shape.reshapeEquiv (s := S1x512x1024) (s' := S512x1024) (by decide) y) 0).val = k + 1 * (i 0).val := h0
  omega

/-- The block's rows from `512 k` on, as the copy takes them, are piece `k`. -/
theorem block_read (k : Fin 4) (r : ℕ) (hr : r = 512 * k.val) (hk : ∀ a, ![r, 0] a + S512x1024.size a ≤ S2048x1024.size a) (p)
    (x : S2048x1024.Idx → Elt F .bf16) (i : S1x512x1024.Idx) :
    View.read (Elt F) (block.slice (Rect.unit (s := S2048x1024) ![r, 0] S512x1024.size hk) p).view x (ix2 (i 1) (i 2)) = piece x k i := by
  subst hr
  refine congrArg x ?_
  funext a
  match a with
  | ⟨0, _⟩ => exact Fin.ext (by show 512 * k.val + 1 * (i 1).val = 512 * k.val + (i 1).val; omega)
  | ⟨1, _⟩ => exact Fin.ext (by show 0 + 1 * (i 2).val = (i 2).val; omega)

/-! ## The four copies together -/

/-- The buffer after matrices `d 0` to `d 3` were copied into its four slots. -/
abbrev filled (f : S4x512x1024.Idx → Elt F .bf16) (d : Fin 4 → S512x1024.Idx → Elt F .bf16) :
    S4x512x1024.Idx → Elt F .bf16 :=
  View.write (Elt F) (slotAt 3 inb_S4x512x1024_S1x512x1024_3_0_0).view (View.write (Elt F) (slotAt 2 inb_S4x512x1024_S1x512x1024_2_0_0).view
    (View.write (Elt F) (slotAt 1 inb_S4x512x1024_S1x512x1024_1_0_0).view (View.write (Elt F) (slotAt 0 inb_S4x512x1024_S1x512x1024_0_0_0).view f (d 0) Finset.univ) (d 1) Finset.univ)
      (d 2) Finset.univ) (d 3) Finset.univ

/-- Then a load of slot `k` reads `d k`. -/
theorem load_filled (k : Fin 4) (hk) (f : S4x512x1024.Idx → Elt F .bf16) (d : Fin 4 → S512x1024.Idx → Elt F .bf16) :
    View.readAt (Elt F) pieces.view (Rect.unit (s := S4x512x1024) ![k.val, 0, 0] S1x512x1024.size hk).toLoadRect
        (filled f d) = fun i => d k (ix2 (i 1) (i 2)) := by
  have far (a b : ℕ) (h : a ≠ b) (ha hb) (g : S4x512x1024.Idx → Elt F .bf16) (w) := load_miss (F := F) a b h ha hb g w
  match k with
  | ⟨0, _⟩ => exact (far 0 3 (by decide) hk _ _ _).trans ((far 0 2 (by decide) hk _ _ _).trans
      ((far 0 1 (by decide) hk _ _ _).trans (load_hit 0 _ f (d 0))))
  | ⟨1, _⟩ => exact (far 1 3 (by decide) hk _ _ _).trans ((far 1 2 (by decide) hk _ _ _).trans (load_hit 1 _ _ (d 1)))
  | ⟨2, _⟩ => exact (far 2 3 (by decide) hk _ _ _).trans (load_hit 2 _ _ (d 2))
  | ⟨3, _⟩ => exact load_hit 3 _ _ (d 3)

/-- The four matrices the kernel copies, read off the block. -/
def copied (x : S2048x1024.Idx → Elt F .bf16) : Fin 4 → S512x1024.Idx → Elt F .bf16 := fun k => match k with
  | 0 => View.read (Elt F) (block.slice (Rect.unit (s := S2048x1024) ![0, 0] S512x1024.size inb_S2048x1024_S512x1024_0_0) (fun _ => rfl)).view x
  | 1 => View.read (Elt F) (block.slice (Rect.unit (s := S2048x1024) ![512, 0] S512x1024.size inb_S2048x1024_S512x1024_512_0) (fun _ => rfl)).view x
  | 2 => View.read (Elt F) (block.slice (Rect.unit (s := S2048x1024) ![1024, 0] S512x1024.size inb_S2048x1024_S512x1024_1024_0) (fun _ => rfl)).view x
  | 3 => View.read (Elt F) (block.slice (Rect.unit (s := S2048x1024) ![1536, 0] S512x1024.size inb_S2048x1024_S512x1024_1536_0) (fun _ => rfl)).view x

/-- Once the block is copied, a load of slot `k` reads piece `k`. -/
theorem load_piece (x : S2048x1024.Idx → Elt F .bf16) (f : S4x512x1024.Idx → Elt F .bf16) (k : Fin 4) (hk) :
    View.readAt (Elt F) pieces.view (Rect.unit (s := S4x512x1024) ![k.val, 0, 0] S1x512x1024.size hk).toLoadRect
        (filled f (copied x)) = piece x k := by
  rw [load_filled]
  funext i
  match k with
  | 0 => exact block_read 0 0 rfl _ _ x i
  | 1 => exact block_read 1 512 rfl _ _ x i
  | 2 => exact block_read 2 1024 rfl _ _ x i
  | 3 => exact block_read 3 1536 rfl _ _ x i

/-! ## The column maxima and the exchange buffer -/

/-- The running maximum of the columns after all four pieces, as the slot of the exchange buffer holds it. -/
def colMax (x : S2048x1024.Idx → Elt F .bf16) : S1x1x1024.Idx → Elt F .bf16 :=
  k0_pay6 (piece x 3) (k0_pay5 (piece x 2) (k0_pay4 (k0_pay3 (piece x 1)) (k0_pay2 (piece x 0))))

/-- The column maxima as a row. -/
def rowOf (v : S1x1x1024.Idx → Elt F .bf16) : Row F := fun i => v (ix3 0 (i 0) (i 1))

/-- A row as the contents of one slot of the exchange buffer. -/
def slab (v : Row F) : S1x1x1024.Idx → Elt F .bf16 := fun i => v (ix2 (i 1) (i 2))

theorem slab_rowOf (v : S1x1x1024.Idx → Elt F .bf16) : slab (rowOf v) = v := by
  funext i
  refine congrArg v ?_
  rw [eq_ix3 i]
  have : i 0 = (0 : Fin 1) := Fin.ext (by have : (i 0).val < 1 := (i 0).isLt; show (i 0).val = 0; omega)
  rw [this]
  rfl

theorem rowOf_slab (v : Row F) : rowOf (slab v) = v := by
  funext i
  exact congrArg v (eq_ix2 i).symm

/-- Loading a slot of the exchange buffer reads, under a leading axis, the row the slot holds. -/
theorem load_slot (k : ℕ) (hk : ∀ a, ![k, 0, 0] a + S1x1x1024.size a ≤ S2x1x1024.size a) (p) (f : S2x1x1024.Idx → Elt F .bf16) :
    View.readAt (Elt F) slots.view (Rect.unit (s := S2x1x1024) ![k, 0, 0] S1x1x1024.size hk).toLoadRect f
      = slab (View.read (Elt F) ((slots.slice (Rect.unit (s := S2x1x1024) ![k, 0, 0] S1x1x1024.size hk) p).squeeze S1x1024 squeezes_S1x1x1024_S1x1024).view f) := by
  funext i
  refine congrArg f ?_
  show (Rect.unit (s := S2x1x1024) ![k, 0, 0] S1x1x1024.size hk).emb i
    = (Rect.unit (s := S2x1x1024) ![k, 0, 0] S1x1x1024.size hk).emb (Shape.reshapeEquiv _ (ix2 (i 1) (i 2)))
  congr 1
  symm
  refine Shape.reshapeEquiv_eq_of_rowMajor _ ?_
  rw [Shape.rowMajor_val_three, Shape.rowMajor_val_two]
  show ((i 0).val * 1 + (i 1).val) * 1024 + (i 2).val = (i 1).val * 1024 + (i 2).val
  have : (i 0).val < 1 := (i 0).isLt
  omega

/-- An element of the exchange buffer lies in slot `k` when its first coordinate is `k`. -/
theorem mem_slot (k : ℕ) (hk : ∀ a, ![k, 0, 0] a + S1x1x1024.size a ≤ S2x1x1024.size a) (i : S2x1x1024.Idx) :
    i ∈ (Rect.unit (s := S2x1x1024) ![k, 0, 0] S1x1x1024.size hk).set ↔ (i 0).val = k := by
  rw [Rect.mem_set_unit]
  have h1 : (i 1).val < 1 := (i 1).isLt
  have h2 : (i 2).val < 1024 := (i 2).isLt
  constructor
  · intro h
    have h3 : k ≤ (i 0).val ∧ (i 0).val < k + 1 := h 0
    omega
  · intro h a
    match a with
    | ⟨0, _⟩ => show k ≤ (i 0).val ∧ (i 0).val < k + 1; omega
    | ⟨1, _⟩ => show 0 ≤ (i 1).val ∧ (i 1).val < 0 + 1; omega
    | ⟨2, _⟩ => show 0 ≤ (i 2).val ∧ (i 2).val < 0 + 1024; omega

/-- After a store of `w` into the near slot, whatever was stored before, the slot holds the row of `w`. -/
theorem near_stored (f : S2x1x1024.Idx → Elt F .bf16) (w : S1x1x1024.Idx → Elt F .bf16) (L) :
    near.view.read (Elt F) (slots.view.writes (Elt F) f (⟨nearR, w⟩ :: L)) = rowOf w := by
  have h := load_slot 0 inb_S2x1x1024_S1x1x1024_0_0_0 (fun _ => rfl) (slots.view.writes (Elt F) f (⟨nearR, w⟩ :: L))
  rw [View.writes_cons, View.readAt_rect, View.read_write_univ] at h
  exact (rowOf_slab _).symm.trans (congrArg rowOf h.symm)

theorem near_set : near.view.set = nearR.set := (View.set_reshape _ _).trans (View.set_slice_whole _ _)
theorem far_set : far.view.set = farR.set := (View.set_reshape _ _).trans (View.set_slice_whole _ _)
theorem near_setOn : slots.view.setOn nearR.set = nearR.set := Finset.map_refl

/-- The two slots make up the buffer. -/
theorem far_rest : farR.set = Finset.univ \ nearR.set := by
  ext i
  have h : (i 0).val < 2 := (i 0).isLt
  rw [Finset.mem_sdiff, mem_slot, mem_slot]
  have := Finset.mem_univ i
  constructor
  · intro h; exact ⟨this, by omega⟩
  · intro h; have := h.2; omega

end Cert.ColMax

end
-- ==== Proof.Body.lean ====
module

public import proofs.«01_k».proof.Proof.Pieces
public import Idealize.ShloMosaic.Lib.Pipeline.FrameBody

@[expose] public section

/-!
The body of the kernel on one device: the local reduction, the meeting at the barrier, the copy of the row into the
other device's buffer, and the final maximum.
-/

noncomputable section

namespace Cert.ColMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

abbrev 𝒱₀ : Variants := Variants.none

/-- The four semaphores of the block's copy into VMEM. -/
abbrev pieceS (k : Fin 4) : DmaSem sig := ⟨1 + k.val, by have := k.isLt; show 1 + k.val < 7; omega⟩

/-- The row the kernel writes out. -/
abbrev out : Memref sig .tc .vmem S1x1024 .bf16 := Memref.whole cc0_stg0_0

/-- The devices' blocks. -/
abbrev Blocks (F : FTy → Type) [FloatOps F] : Type := Dev nD → S2048x1024.Idx → Elt F .bf16

variable (X : Blocks F)

/-- The row each device finds for its own block. -/
def rows (c : Dev nD) : Row F := rowOf (colMax (X c))

/-- The row each device writes out: the maximum of its own row and the row of the device across. -/
def result (c : Dev nD) : Row F := k0_pay1 (colMax (X c)) (colMax (X (across c)))

/-! ## What the body starts from and what it leaves -/

/-- The facts everyone may use: the invariant of every semaphore of the exchange, and that its only round has begun. -/
def known (K : Dev nD × Role → ℕ) : sProp 𝕄 :=
  iprop((bigSep Finset.univ fun p : Dev nD × Role => cellInv Ex (plan (rows X)) (K p) (cell p.1 p.2))
    ∗ bigSep Finset.univ fun p : Dev nD × Role => reached Ex (cell p.1 p.2) 0)

instance known_persistent (K : Dev nD × Role → ℕ) : BI.Persistent (known X K) := by unfold known; infer_instance

theorem known_inv (K : Dev nD × Role → ℕ) (c : Dev nD) (r : Role) :
    known X K ⊢ cellInv Ex (plan (rows X)) (K (c, r)) (cell c r) := by
  have h : (bigSep Finset.univ fun p : Dev nD × Role => cellInv Ex (plan (rows X)) (K p) (cell p.1 p.2) : sProp 𝕄)
      ⊢ cellInv Ex (plan (rows X)) (K (c, r)) (cell c r) := bigSep_elim (Finset.mem_univ (c, r))
  unfold known; iintro ⟨H, -⟩
  iapply h; iexact H

theorem known_reached (K : Dev nD × Role → ℕ) (c : Dev nD) (r : Role) : known X K ⊢ reached Ex (cell c r) 0 := by
  have h : (bigSep Finset.univ fun p : Dev nD × Role => reached Ex (cell p.1 p.2) 0 : sProp 𝕄)
      ⊢ reached Ex (cell c r) 0 := bigSep_elim (Finset.mem_univ (c, r))
  unfold known; iintro ⟨-, H⟩
  iapply h; iexact H

/-- The tokens of the three payments device `c` makes. -/
def dues (c : Dev nD) : sProp 𝕄 :=
  iprop(dutyTok Ex (cell (across c) .gate) 0 () ∗ dutyTok Ex (cell c .sent) 0 () ∗ dutyTok Ex (cell (across c) .came) 0 ())

/-- Device `c`'s places in the rounds of its own three semaphores. -/
def places (c : Dev nD) : sProp 𝕄 :=
  iprop(atPos Ex (cell c .gate) 0 ∅ 0 ∗ atPos Ex (cell c .sent) 0 ∅ 0 ∗ atPos Ex (cell c .came) 0 ∅ 0)

/-- The semaphores of the block's copy, at rest. -/
def copySems (c : Dev nD) : sProp 𝕄 :=
  iprop(semVal ((c : Thread nD τ), .dma (pieceS 0)) 0 ∗ semVal ((c : Thread nD τ), .dma (pieceS 1)) 0
    ∗ semVal ((c : Thread nD τ), .dma (pieceS 2)) 0 ∗ semVal ((c : Thread nD τ), .dma (pieceS 3)) 0)

/-- The memory the body uses besides the output: the block, unchanged throughout, and the two scratch buffers. -/
def store (c : Dev nD) : sProp 𝕄 :=
  iprop((block.view.loc (c : Thread nD τ) ↦{fullShare} X c) ∗ (∃ f, pieces.view.loc (c : Thread nD τ) ↦{fullShare} f)
    ∗ (∃ f, slots.view.loc (c : Thread nD τ) ↦{fullShare} f))

/-- What the body starts from, besides what it owes and its output. -/
def entry (K : Dev nD × Role → ℕ) (c : Dev nD) : sProp 𝕄 :=
  iprop(known X K ∗ dues c ∗ places c ∗ copySems c ∗ store X c
    ∗ cred (tallyAt (cell c .gate) () 1) ∗ cred (tallyAt (cell c .came) () N) ∗ levAts L lv)

/-- What the body leaves: the memory, and every semaphore at rest. -/
def leave (c : Dev nD) : sProp 𝕄 :=
  iprop(store X c ∗ copySems c ∗ semVal (cell c .gate) 0 ∗ semVal (cell c .sent) 0 ∗ semVal (cell c .came) 0)

/-! ## The exchange buffer in two parts -/

theorem slots_split (c : Dev nD) (f : S2x1x1024.Idx → Elt F .bf16) :
    (slots.view.loc (c : Thread nD τ) ↦{fullShare} f : sProp 𝕄)
      ⊢ iprop((slots.view.loc (c : Thread nD τ) ↦[slots.view.setOn nearR.set]{fullShare} f) ∗ ∃ v, owns (c : Thread nD τ) far fullShare v) := by
  refine (pointsTo_split_subset (Finset.subset_univ (slots.view.setOn nearR.set))).1.trans (sep_mono_right ?_)
  have h : (Finset.univ \ slots.view.setOn nearR.set : Finset S2x1x1024.Idx) = far.view.set := by
    rw [near_setOn, far_set, far_rest]
  rw [h]
  iintro H
  iexists (far.view.read (Elt F) f)
  iapply (owns_intro (c : Thread nD τ) far fullShare f)
  iexact H

/-- The near part of the buffer is what the near slot holds. -/
theorem slots_near (c : Dev nD) (f : S2x1x1024.Idx → Elt F .bf16) :
    (slots.view.loc (c : Thread nD τ) ↦[slots.view.setOn nearR.set]{fullShare} f : sProp 𝕄)
      ⊢ (near.view.loc (c : Thread nD τ) ↦[near.view.set]{fullShare} f) := by
  rw [near_setOn, near_set]

theorem slots_join (c : Dev nD) (f g : S2x1x1024.Idx → Elt F .bf16) :
    iprop((near.view.loc (c : Thread nD τ) ↦[near.view.set]{fullShare} f) ∗ (far.view.loc (c : Thread nD τ) ↦[far.view.set]{fullShare} g))
      ⊢ (iprop(∃ f, slots.view.loc (c : Thread nD τ) ↦{fullShare} f) : sProp 𝕄) := by
  rw [far_set, near_set, far_rest]
  iintro H
  ihave H' := (pointsTo_join_subset (Finset.subset_univ nearR.set)) $$ H
  iexists _
  iexact H'

/-! ## The copy across -/

/-- The copy of the near slot, holding the device's row, into the far slot of the device across. -/
theorem copy_across (K : Dev nD × Role → ℕ) (c n : Dev nD) (hn : n = across c)
    {hsc : (far : Memref sig (Dev.tc n : Thread nD τ).2.kind .vmem S1x1024 .bf16).view.ref.isScScratch = false}
    {hsrc : near.view.WordExact} {hdst : (far : Memref sig (Dev.tc n : Thread nD τ).2.kind .vmem S1x1024 .bf16).view.WordExact}
    {hsem : DmaTarget.Typed .vmem (.dma cameS) (.remote (Dev.tc n : Thread nD τ) (far : Memref sig .tc .vmem S1x1024 .bf16) (.dma sentS) hsc)}
    {α : Type} {Q : α → sProp 𝕄} {k : PUnit → Prog (TpuEff nD τ sig (Elt F) Λ₀ .tc) α}
    (f : Buf (Elt F) (near.view.loc (c : Thread nD τ))) (hf : near.view.read (Elt F) f = rows X c)
    (g : Buf (Elt F) (far.view.loc (across c : Thread nD τ))) (W : Waits sig Unit) :
    iprop(known X K ∗ (near.view.loc (c : Thread nD τ) ↦[near.view.set]{fullShare} f)
        ∗ (far.view.loc (across c : Thread nD τ) ↦[far.view.set]{fullShare} g)
        ∗ owes (c : Thread nD τ) (tallyAt (cell (across c) .came) () N) W
        ∗ dutyTok Ex (cell c .sent) 0 () ∗ dutyTok Ex (cell (across c) .came) 0 ())
      ⊢ iprop(((cred (tallyAt (cell c .sent) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma near (.remote (Dev.tc n : Thread nD τ) far (.dma sentS) hsc) (.dma cameS) hsrc hdst hsem) k) Q) := by
  subst hn
  iintro ⟨#HK, Hn, Hf, HO, Hs, Hv⟩ Hk
  iapply (Rounds.wp_send_pointsTo 𝒱₀ Ex (plan (rows X)) (c : Thread nD τ) none (κ₁ := K (c, .sent)) (κ₂ := K (across c, .came))
    (r₁ := 0) (r₂ := 0) (d₁ := ()) (d₂ := ()) (fd := g) (plan_mem (rows X) c .sent) (plan_mem (rows X) (across c) .came)
    () () N rfl (plan_amount (rows X) c .sent) (plan_amount (rows X) (across c) .came) 0 (by rw [zero_add]) (W := W)
    (by
      rw [plan_payload (rows X) c .sent]; unfold gift; rw [← hf]
      exact owns_intro (c : Thread nD τ) near fullShare f)
    (by
      rw [plan_payload (rows X) (across c) .came]; unfold gift; rw [across_across, ← hf]
      refine (owns_intro (across c : Thread nD τ) far fullShare _).trans (Entails.of_eq ?_)
      rw [View.read_write_univ])) $$ [Hn Hf HO Hs Hv]
  · isplitr; · iapply (known_inv X K c .sent); iexact HK
    isplitr; · iapply (known_inv X K (across c) .came); iexact HK
    isplitl [Hn]; · iexact Hn
    isplitl [Hf]; · iexact Hf
    isplitl [HO]; · iexact HO
    isplitl [Hs]; · iexact Hs
    isplitr; · iapply (known_reached X K c .sent); iexact HK
    isplitl [Hv]; · iexact Hv
    iapply (known_reached X K (across c) .came); iexact HK
  iexact Hk

/-! ## The whole body -/

/-- The rectangle of the whole output row. -/
abbrev outR : Rect S1x1024 := Rect.unit (s := S1x1024) ![0, 0] S1x1024.size inb_S1x1024_S1x1024_0_0

/-- A store of the whole output row leaves what was stored. -/
theorem out_stored (o w : S1x1024.Idx → Elt F .bf16) :
    View.write (Elt F) ((out : Memref sig .tc .vmem S1x1024 .bf16).access outR : View sig .tc _ _ _) o w Finset.univ = w :=
  Memref.write_access_unit_zero_univ (Elt F) cc0_stg0_0 (funext fun a => by fin_cases a <;> rfl) _ o w

set_option sl_exec.dmaWindow true in
/-- On every device, from what the launch gives it, the body terminates and leaves the memory with the maximum of the
two rows in the output. -/
theorem body_run (K : Dev nD × Role → ℕ) (c : Dev nD) (W : Waits sig Unit) (o : S1x1024.Idx → Elt F .bf16) (Kt : PUnit → sProp 𝕄) :
    iprop(entry X K c ∗ owes (c : Thread nD τ) (debt c) W ∗ (out.view.loc (c : Thread nD τ) ↦{fullShare} o)
        ∗ ((leave X c ∗ (∃ W', owes (c : Thread nD τ) 0 W') ∗ (out.view.loc (c : Thread nD τ) ↦{fullShare} result X c)) -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _) cc0_scratch2 cc0_scratch3 cc0_scratch4) Kt := by
  simp only [cc0_body_eq_skeleton]; unfold cc0_body_skel
  simp only [k0_part1_eq_skeleton]; unfold k0_part1_skel
  simp only [semSignalWord, Prog.lift, Prog.bind_op, Prog.bind_ret, Prog.pure_eq_ret, wp_deviceId, signal_to c]
  unfold entry dues places copySems store
  iintro ⟨⟨#HK, ⟨Hdg, Hds, Hdc⟩, ⟨Hag, Has, Hac⟩, ⟨Hs0, Hs1, Hs2, Hs3⟩, ⟨Hx, ⟨%f0, Hp⟩, ⟨%f1, Hslots⟩⟩, Hcg, Hcc, #Hlev⟩, HO, Hout, Hk⟩
  ihave Hsl := (slots_split c f1) $$ Hslots
  icases Hsl with ⟨Hnear, Hfar⟩
  iapply (Rounds.wp_signal 𝒱₀ Ex (plan (rows X)) (c : Thread nD τ) none (dst := ((across c : Dev nD) : Thread nD τ)) (κ := K (across c, .gate))
      (d := ()) (plan_mem (rows X) (across c) .gate) ((plan_amount (rows X) (across c) .gate).trans (by decide)) () (tallyAt (cell (across c) .came) () N) rfl)
    $$ [HO Hdg Hfar]
  · isplitr; · iapply (known_inv X K (across c) .gate); iexact HK
    isplitl [HO]; · iexact HO
    isplitl [Hdg]; · iexact Hdg
    isplitl [Hfar]
    · rw [show (plan (rows X)).payload ((across c).tc, SemLoc.reg gateS) 0 () = _ from plan_payload (rows X) (across c) .gate]; unfold gift; rw [across_across]
      isplitl [Hfar]; · iexact Hfar
      iapply (known_reached X K c .came); iexact HK
    · iapply (known_reached X K (across c) .gate); iexact HK
  iintro HO
  have hw0 := may_wait_copy (F := F) c (pieceS 0) rfl
  have hw1 := may_wait_copy (F := F) c (pieceS 1) rfl
  have hw2 := may_wait_copy (F := F) c (pieceS 2) rfl
  have hw3 := may_wait_copy (F := F) c (pieceS 3) rfl
  sl_exec
  have hv : k0_pay6 (body_run.sl.v X c f0) (body_run.sl.v83 X c f0) = colMax (X c) := by
    unfold body_run.sl.v83 body_run.sl.Hnear_3
    rw [View.readCov_cons_toLoadRect]
    unfold body_run.sl.v68 body_run.sl.Hnear_2
    rw [View.readCov_cons_toLoadRect]
    unfold body_run.sl.v53 body_run.sl.Hnear_1
    rw [View.readCov_cons_toLoadRect]
    exact congrArg₂ k0_pay6 (load_piece (X c) f0 3 _) (congrArg₂ k0_pay5 (load_piece (X c) f0 2 _)
      (congrArg₂ k0_pay4 (congrArg k0_pay3 (load_piece (X c) f0 1 _)) (congrArg k0_pay2 (load_piece (X c) f0 0 _))))
  have hrow : near.view.read (Elt F) (slots.view.writes (Elt F) f1 (⟨nearR, k0_pay6 (body_run.sl.v X c f0) (body_run.sl.v83 X c f0)⟩ ::
      body_run.sl.Hnear_3 X c f0)) = rows X c := by
    rw [near_stored, hv]; rfl
  generalize slots.view.writes (Elt F) f1 _ = s at hrow ⊢
  generalize View.write (Elt F) _ _ _ _ = q
  ihave Hnear := (slots_near c s) $$ Hnear
  -- the meeting: this device's unit of its own barrier comes with the far slot of the device across
  iapply (Rounds.wp_wait_rest_token 𝒱₀ Ex (plan (rows X)) (c : Thread nD τ) none (κ := K (c, .gate))
      (wpE_semWait_eq 𝒱₀ (c : Thread nD τ) none Set.univ) (Set.mem_univ _) () (O := tallyAt (cell (across c) .came) () N) (R := 0) (m := 0) (T := ∅)
      (by rw [plan_expect (rows X) c .gate]; decide)) $$ [Hcg HO Hag]
  · isplitr; · iapply (known_inv X K c .gate); iexact HK
    isplitl [Hcg]; · iexact Hcg
    isplitl [HO]; · iexact HO
    isplitr; · iapply (may_wait_gate (F := F) c); iexact Hlev
    iexact Hag
  iintro ⟨HO, Hag, -, Hpay⟩
  ihave Hgift := (Entails.of_eq (plan_rest (rows X) c .gate)) $$ Hpay
  unfold gift owns
  icases Hgift with ⟨⟨%v, %g, -, Hfar⟩, -⟩
  simp only [wp_ret]
  imodintro
  simp only [Prog.lift, Prog.bind_op, Prog.bind_ret, Prog.pure_eq_ret]
  -- the copy of the row
  iapply (copy_across X K c _ (copy_to c) s hrow g _) $$ [Hnear Hfar HO Hds Hdc]
  · isplitr; · iexact HK
    isplitl [Hnear]; · iexact Hnear
    isplitl [Hfar]; · iexact Hfar
    isplitl [HO]; · iexact HO
    isplitl [Hds] <;> iassumption
  iintro ⟨Hcs, HO⟩
  -- its two ends: the near slot back, and the far slot with the row of the device across
  iapply (Rounds.wp_wait_rest_token 𝒱₀ Ex (plan (rows X)) (c : Thread nD τ) none (κ := K (c, .sent))
      (wpE_waitDma2_eq 𝒱₀ (c : Thread nD τ) none Set.univ) (Set.mem_univ _) () (O := 0) (R := 0) (m := 0) (T := ∅)
      (by rw [Nat.zero_add]; exact (plan_expect (rows X) c .sent).symm)) $$ [Hcs HO Has]
  · isplitr; · iapply (known_inv X K c .sent); iexact HK
    isplitl [Hcs]; · iexact Hcs
    isplitl [HO]; · iexact HO
    isplitr; · rw [MayWait_zero]; iempintro
    iexact Has
  iintro ⟨HO, Has, -, Hpay⟩
  ihave Hnear := (Entails.of_eq (plan_rest (rows X) c .sent)) $$ Hpay
  simp only [wp_ret]
  imodintro
  iapply (Rounds.wp_wait_rest_token 𝒱₀ Ex (plan (rows X)) (c : Thread nD τ) none (κ := K (c, .came))
      (wpE_waitDma2_eq 𝒱₀ (c : Thread nD τ) none Set.univ) (Set.mem_univ _) () (O := 0) (R := 0) (m := 0) (T := ∅)
      (by rw [Nat.zero_add]; exact (plan_expect (rows X) c .came).symm)) $$ [Hcc HO Hac]
  · isplitr; · iapply (known_inv X K c .came); iexact HK
    isplitl [Hcc]; · iexact Hcc
    isplitl [HO]; · iexact HO
    isplitr; · rw [MayWait_zero]; iempintro
    iexact Hac
  iintro ⟨HO, Hac, -, Hpay⟩
  ihave Hfar := (Entails.of_eq (plan_rest (rows X) c .came)) $$ Hpay
  -- the three semaphores come to rest
  imod (Rounds.cell_close Ex (plan (rows X)) (Set.mem_univ (K (c, .gate))) (fun h => h) (R := 0 + 1) (plan_after (rows X) (cell c .gate))) $$ [Hag] with Hzg
  · isplitr; · iapply (known_inv X K c .gate); iexact HK
    iexact Hag
  imod (Rounds.cell_close Ex (plan (rows X)) (Set.mem_univ (K (c, .sent))) (fun h => h) (R := 0 + 1) (plan_after (rows X) (cell c .sent))) $$ [Has] with Hzs
  · isplitr; · iapply (known_inv X K c .sent); iexact HK
    iexact Has
  imod (Rounds.cell_close Ex (plan (rows X)) (Set.mem_univ (K (c, .came))) (fun h => h) (R := 0 + 1) (plan_after (rows X) (cell c .came))) $$ [Hac] with Hzc
  · isplitr; · iapply (known_inv X K c .came); iexact HK
    iexact Hac
  -- the two rows are read and their maximum is written out
  unfold gift owns
  icases Hnear with ⟨%s', %hs, Hnear⟩
  icases Hfar with ⟨%g', %hg, Hfar⟩
  iapply (wp_load 𝒱₀ (c : Thread nD τ) none Set.univ (m := slots) (S := near.view.set) (by rw [near_set]; exact near_setOn.subset)) $$ Hnear; iintro Hnear
  iapply (wp_load 𝒱₀ (c : Thread nD τ) none Set.univ (m := slots) (S := far.view.set) (by rw [far_set]; exact (Finset.map_refl (s := farR.set)).subset)) $$ Hfar; iintro Hfar
  iapply (wp_load 𝒱₀ (c : Thread nD τ) none Set.univ (m := out) (Finset.subset_univ _)) $$ Hout; iintro Hout
  iapply (wp_store 𝒱₀ (c : Thread nD τ) none Set.univ (m := out) (r := outR) (Mk := Finset.univ) (Finset.subset_univ _)) $$ Hout; iintro Hout
  have hn : View.readAt (Elt F) slots.view nearR.toLoadRect s' = colMax (X c) := by
    rw [load_slot 0 _ (fun _ => rfl), hs]; exact slab_rowOf _
  have hf : View.readAt (Elt F) slots.view farR.toLoadRect g' = colMax (X (across c)) := by
    rw [load_slot 1 _ (fun _ => rfl), hg]; exact slab_rowOf _
  ihave Hout := (Entails.of_eq (congrArg (fun w => (out.view.loc (c : Thread nD τ) ↦{fullShare} w : sProp 𝕄))
    ((out_stored o _).trans (congrArg₂ k0_pay1 hn hf)))) $$ Hout
  rw [wp_ret]; imodintro
  iapply Hk
  unfold leave store copySems
  isplitl [Hx Hp Hnear Hfar Hs0 Hs1 Hs2 Hs3 Hzg Hzs Hzc]
  · isplitl [Hx Hp Hnear Hfar]
    · isplitl [Hx]; · iexact Hx
      isplitl [Hp]; · iexists q; iexact Hp
      iapply (slots_join c s' g')
      isplitl [Hnear] <;> iassumption
    isplitl [Hs0 Hs1 Hs2 Hs3]
    · isplitl [Hs0]; · iexact Hs0
      isplitl [Hs1]; · iexact Hs1
      isplitl [Hs2] <;> iassumption
    isplitl [Hzg]; · iexact Hzg
    isplitl [Hzs] <;> iassumption
  isplitl [HO]
  · iexists _; iexact HO
  iexact Hout

end Cert.ColMax

end
-- ==== Proof.Deal.lean ====
module

public import proofs.«01_k».proof.Proof.Body
public import Idealize.ShloMosaic.Lib.Pipeline.CollectiveSegs

@[expose] public section

/-!
What every device is dealt at the start: the invariants of the exchange's semaphores, its places in their rounds, the
tokens of the payments it will make, and the credit for the waits it will do.
-/

noncomputable section

namespace Cert.ColMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UA ℕ

variable (X : Blocks F)

/-! ## The semaphores of the exchange, and the kernel's own -/

/-- The kernel's scoped semaphores: four for the block's copy, two for the copy across. -/
abbrev osem : Fin 6 → SemLoc sig
  | 0 => .dma (pieceS 0)
  | 1 => .dma (pieceS 1)
  | 2 => .dma (pieceS 2)
  | 3 => .dma (pieceS 3)
  | 4 => .dma sentS
  | 5 => .dma cameS

theorem ownSemFacts : Pipeline.OwnSemFacts cfg0.spec osem := by decide

theorem ownSems0_eq (c : Dev nD) :
    (Pipeline.ownSems0 (Ix := Unit) (Name := ℕ) (U := UA) (Lvl := ℕ) (Val := Elt F) (τ := τ) osem c : sProp 𝕄)
      = iprop(semVal ((c : Thread nD τ), .dma (pieceS 0)) 0 ∗ semVal ((c : Thread nD τ), .dma (pieceS 1)) 0
        ∗ semVal ((c : Thread nD τ), .dma (pieceS 2)) 0 ∗ semVal ((c : Thread nD τ), .dma (pieceS 3)) 0
        ∗ semVal (cell c .sent) 0 ∗ semVal (cell c .came) 0) := by
  rw [Pipeline.ownSems0_eq_of_list c osem [0, 1, 2, 3, 4, 5] (by decide) (by decide)]; rfl

theorem unscopedSems0_eq (c : Dev nD) : (unscopedSems0 c : sProp 𝕄) = semVal (cell c .gate) 0 := by
  unfold unscopedSems0; rw [bigSep_eq_bigSepL_of_eq [SemLoc.reg gateS] (by decide) (by decide)]; rfl

/-- A sum over the roles has three parts. -/
theorem bigSep_roles (Φ : Role → sProp 𝕄) : bigSep Finset.univ Φ = iprop(Φ .gate ∗ Φ .sent ∗ Φ .came) := by
  rw [bigSep_univ_eq_bigSepL [Role.gate, Role.sent, Role.came] (by decide) (by decide)]; rfl

/-- All semaphores of the exchange, -/
def cells : Finset (GSem nD τ sig) :=
  Finset.univ.map ⟨fun p : Dev nD × Role => cell p.1 p.2, fun _ _ h => Prod.ext (cell_inj h).1 (cell_inj h).2⟩

/-- and the token of the one payment each is due. -/
def tokens : Finset (GSem nD τ sig × ℕ × Unit) :=
  Finset.univ.map ⟨fun p : Dev nD × Role => (cell p.1 p.2, 0, ()),
    fun _ _ h => Prod.ext (cell_inj (congrArg Prod.fst h)).1 (cell_inj (congrArg Prod.fst h)).2⟩

/-- The ghost state at the start. -/
def u₀ : UA :=
  (initOf (Pipeline.cells cfgs cellOf_inj) (Pipeline.launchToks cfgs cellOf_inj), (initOf cells tokens, 1))

/-! ## Dealing -/

/-- What a device is handed of the fresh rounds of its own semaphores, -/
def fresh (c : Dev nD) : sProp 𝕄 :=
  iprop((bigSep Finset.univ fun r => roundState Ex (plan (rows X)) (cell c r) 0)
    ∗ (bigSep Finset.univ fun r => reached Ex (cell c r) 0)
    ∗ (bigSep Finset.univ fun r => atPos Ex (cell c r) 0 ∅ 0)
    ∗ bigSep Finset.univ fun r => dutyTok Ex (cell c r) 0 ())

/-- and what it starts with once these have been put under invariants and the tokens have gone to who pays. -/
def dealt (c : Dev nD) : sProp 𝕄 := iprop((∃ K, known X K ∗ dues c ∗ places c) ∗ copySems c)

/-- The rounds are created, device by device. -/
theorem fresh_intro : BI.own (Ex (initOf cells tokens)) ⊢ (|==> bigSep Finset.univ (fresh X) : sProp 𝕄) := by
  have hc (Φ : GSem nD τ sig → sProp 𝕄) :
      bigSep cells Φ = bigSep Finset.univ fun c : Dev nD => bigSep Finset.univ fun r : Role => Φ (cell c r) := by
    unfold cells; rw [bigSep_map, bigSep_univ_prod]; rfl
  have ht : bigSep tokens (fun x => (dutyTok Ex x.1 x.2.1 x.2.2 : sProp 𝕄))
      = bigSep Finset.univ fun c : Dev nD => bigSep Finset.univ fun r : Role => dutyTok Ex (cell c r) 0 () := by
    unfold tokens; rw [bigSep_map, bigSep_univ_prod]; rfl
  refine (Rounds.fund Ex (plan (rows X)) cells tokens).trans (Laws.bupd_mono ?_)
  unfold fresh
  rw [hc, hc, hc, ht]
  simp only [bigSep_sep']
  exact Entails.rfl

/-- A device's own semaphores go under invariants; the copy's stay with it. -/
theorem alloc_one (c : Dev nD) :
    iprop(Pipeline.ownSems0 (Ix := Unit) (Name := ℕ) (U := UA) (Lvl := ℕ) (Val := Elt F) (τ := τ) osem c ∗ unscopedSems0 c ∗ fresh X c)
      ⊢ |={Set.univ}=> iprop((bigSep Finset.univ fun r => iprop(∃ κ : ℕ, cellInv Ex (plan (rows X)) κ (cell c r)))
          ∗ (bigSep Finset.univ fun r => reached Ex (cell c r) 0)
          ∗ (bigSep Finset.univ fun r => atPos Ex (cell c r) 0 ∅ 0)
          ∗ (bigSep Finset.univ fun r => dutyTok Ex (cell c r) 0 ()) ∗ copySems c) := by
  have halloc : (bigSep Finset.univ fun r => iprop(semVal (cell c r) 0 ∗ roundState Ex (plan (rows X)) (cell c r) 0) : sProp 𝕄)
      ⊢ |={Set.univ}=> bigSep Finset.univ fun r => iprop(∃ κ : ℕ, cellInv Ex (plan (rows X)) κ (cell c r)) :=
    (bigSep_mono fun r _ => (Rounds.body_intro Ex (plan (rows X)) (cell c r)).trans inv_alloc).trans (bigSep_fupd _ _)
  rw [ownSems0_eq, unscopedSems0_eq]
  unfold fresh copySems
  iintro ⟨⟨H0, H1, H2, H3, Hs, Hc⟩, Hg, Hst, Hr, Hat, Htok⟩
  imod halloc $$ [Hs Hc Hg Hst] with Hinv
  · rw [bigSep_sep']
    isplitr [Hst]
    · rw [bigSep_roles]
      isplitl [Hg]; · iexact Hg
      isplitl [Hs] <;> iassumption
    iexact Hst
  imodintro
  isplitl [Hinv]; · iexact Hinv
  isplitl [Hr]; · iexact Hr
  isplitl [Hat]; · iexact Hat
  isplitl [Htok]; · iexact Htok
  isplitl [H0]; · iexact H0
  isplitl [H1]; · iexact H1
  isplitl [H2] <;> iassumption

/-- The tokens change hands: those of a device's barrier and of its landing slot go to the device across. -/
theorem tokens_swap :
    (bigSep Finset.univ fun c : Dev nD => bigSep Finset.univ fun r => (dutyTok Ex (cell c r) 0 () : sProp 𝕄))
      ⊢ bigSep Finset.univ fun c : Dev nD => (dues c : sProp 𝕄) := by
  unfold dues
  simp only [bigSep_roles, bigSep_sep']
  rw [bigSep_univ_equiv swapRows (fun c : Dev nD => (dutyTok Ex (cell c .gate) 0 () : sProp 𝕄)),
    bigSep_univ_equiv swapRows (fun c : Dev nD => (dutyTok Ex (cell c .came) 0 () : sProp 𝕄))]
  exact Entails.rfl

/-- What one device starts with, its invariants' names given. -/
theorem dealt_one (K : Dev nD × Role → ℕ) (c : Dev nD) :
    (iprop(known X K ∗ dues c ∗ (bigSep Finset.univ fun r => atPos Ex (cell c r) 0 ∅ 0) ∗ copySems c) : sProp 𝕄) ⊢ dealt X c := by
  unfold dealt places
  rw [bigSep_roles]
  iintro ⟨H1, H2, H3, H4⟩
  isplitr [H4]
  · iexists K
    isplitl [H1]; · iexact H1
    isplitl [H2] <;> iassumption
  iexact H4

/-- All the invariants together are known to everyone. -/
theorem share_out :
    (bigSep Finset.univ fun c : Dev nD => iprop((bigSep Finset.univ fun r => iprop(∃ κ : ℕ, cellInv Ex (plan (rows X)) κ (cell c r)))
          ∗ (bigSep Finset.univ fun r => reached Ex (cell c r) 0)
          ∗ (bigSep Finset.univ fun r => atPos Ex (cell c r) 0 ∅ 0)
          ∗ (bigSep Finset.univ fun r => dutyTok Ex (cell c r) 0 ()) ∗ copySems c) : sProp 𝕄)
      ⊢ bigSep Finset.univ (dealt X) := by
  simp only [bigSep_sep']
  rw [← bigSep_univ_prod (fun p : Dev nD × Role => iprop(∃ κ : ℕ, cellInv Ex (plan (rows X)) κ (cell p.1 p.2))),
    ← bigSep_univ_prod (fun p : Dev nD × Role => (reached Ex (cell p.1 p.2) 0 : sProp 𝕄))]
  iintro ⟨Hinv, #Hr, Hat, Htok, Hcopy⟩
  ihave HK := (BI.bigSep_exists_pi Finset.univ
    (fun (p : Dev nD × Role) (κ : ℕ) => (cellInv Ex (plan (rows X)) κ (cell p.1 p.2) : sProp 𝕄))) $$ Hinv
  icases HK with ⟨%K, #HI⟩
  ihave Hd := (tokens_swap (F := F)) $$ Htok
  have hgive : iprop((bigSep Finset.univ fun c : Dev nD => (known X K : sProp 𝕄)) ∗ (bigSep Finset.univ fun c : Dev nD => (dues c : sProp 𝕄))
      ∗ (bigSep Finset.univ fun c : Dev nD => bigSep Finset.univ fun r => (atPos Ex (cell c r) 0 ∅ 0 : sProp 𝕄))
      ∗ bigSep Finset.univ fun c : Dev nD => (copySems c : sProp 𝕄)) ⊢ bigSep Finset.univ (dealt X) := by
    rw [← bigSep_sep', ← bigSep_sep', ← bigSep_sep']
    exact bigSep_mono fun c _ => dealt_one X K c
  iapply hgive
  isplitr
  · iapply (BI.bigSep_of_persistent (Finset.univ : Finset (Dev nD)) (known X K : sProp 𝕄))
    unfold known
    isplitr; · iexact HI
    iexact Hr
  isplitl [Hd]; · iexact Hd
  isplitl [Hat] <;> iassumption

/-- From everyone's semaphores and fresh rounds to what everyone starts with. -/
theorem dealt_intro :
    (bigSep Finset.univ fun c => iprop(Pipeline.ownSems0 (Ix := Unit) (Name := ℕ) (U := UA) (Lvl := ℕ) (Val := Elt F) (τ := τ) osem c
        ∗ unscopedSems0 c ∗ fresh X c) : sProp 𝕄)
      ⊢ |={Set.univ}=> bigSep Finset.univ (dealt X) :=
  ((bigSep_mono fun c _ => alloc_one X c).trans (bigSep_fupd _ _)).trans (BI.fupd_mono (share_out X))

/-! ## The credit -/

theorem across_eq_iff (c d : Dev nD) : across d = c ↔ d = across c :=
  ⟨fun h => by rw [← h, across_across], fun h => by rw [h, across_across]⟩

/-- Only the device across owes a device's semaphores anything, -/
theorem debt_at (d c : Dev nD) (r : Role) (n : ℕ) :
    (tallyAt (cell (across d) r) () n : CellTallies nD τ sig Unit) (cell c r) () = if d = across c then n else 0 := by
  rw [tallyAt_apply]
  by_cases h : d = across c
  · subst h; rw [across_across, if_pos ⟨rfl, rfl⟩, if_pos rfl]
  · rw [if_neg fun k => h ((across_eq_iff c d).mp (cell_inj k.1).1.symm), if_neg h]

theorem debt_off (d c : Dev nD) {r r' : Role} (hr : r ≠ r') (n : ℕ) :
    (tallyAt (cell (across d) r) () n : CellTallies nD τ sig Unit) (cell c r') () = 0 := by
  rw [tallyAt_apply, if_neg fun k => hr (cell_inj k.1).2.symm]

/-- one unit of its barrier, -/
theorem debt_gate (d c : Dev nD) : debt d (cell c .gate) () = if d = across c then 1 else 0 := by
  unfold debt
  rw [Pi.add_apply, Finsupp.add_apply, debt_off d c (by decide), debt_at, Nat.zero_add]

/-- and the filling of its landing slot. -/
theorem debt_came (d c : Dev nD) : debt d (cell c .came) () = if d = across c then N else 0 := by
  unfold debt
  rw [Pi.add_apply, Finsupp.add_apply, debt_off d c (by decide : Role.gate ≠ .came), debt_at, Nat.add_zero]

/-- What all devices together owe a semaphore that only the device across pays. -/
theorem owed_all (c : Dev nD) (r : Role) (n : ℕ) (h : ∀ d, debt d (cell c r) () = if d = across c then n else 0) :
    tallyOn (cell c r) (launchCredit (Pipeline.owing debt) 0 (cell c r)) = (tallyAt (cell c r) () n : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ (across c) fun _ => n, if_pos (Finset.mem_univ _)]

/-- So each device is credited with one unit of its barrier and one filled slot. -/
theorem credit (c : Dev nD) :
    (Pipeline.launchCred debt c : sProp 𝕄) ⊢ iprop(cred (tallyAt (cell c .gate) () 1) ∗ cred (tallyAt (cell c .came) () N)) := by
  unfold Pipeline.launchCred
  rw [bigSep_univ_at _ (SemLoc.reg gateS), owed_all c .gate 1 fun d => debt_gate d c]
  refine sep_mono_right ?_
  rw [← owed_all c .came N fun d => debt_came d c]
  exact bigSep_elim (Finset.mem_erase.mpr ⟨by decide, Finset.mem_univ _⟩)

end Cert.ColMax

end
-- ==== Proof.Launch.lean ====
module

public import proofs.«01_k».proof.Proof.Deal
public import Idealize.ShloMosaic.Lib.Quiescent

@[expose] public section

/-!
The run of the whole program on the four devices, over any float values: it ends, every device's output holds the
maximum of its row and the row of the device across, every block is as it was and every semaphore is at rest.
-/

noncomputable section

namespace Cert.ColMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UA ℕ

variable (m : (ℓ : Loc nD τ sig) → Buf (Elt F) ℓ) (ρ : Dev nD → PrngReg)

/-- The devices' blocks as the run finds them. -/
def blocks : Blocks F := fun c => m ((c : Thread nD τ).loc main_arg0)

/-- What a device starts with besides its scratch memory. -/
def start (c : Dev nD) : sProp 𝕄 :=
  iprop(dealt (blocks m) c ∗ (block.view.loc (c : Thread nD τ) ↦{fullShare} blocks m c)
    ∗ cred (tallyAt (cell c .gate) () 1) ∗ cred (tallyAt (cell c .came) () N) ∗ levAts L lv)

/-- The body's proof data: the output as found and as left, what is held before and after, and the debt. -/
def dats (_ : Fin 1) (c : Dev nD) : Dat τ (Elt F) Unit ℕ UA ℕ cfg0 c where
  A w := m ((cfg0.win w).arr.view.loc (c : Thread nD τ))
  after w _ := match w with
    | ⟨0, _⟩ => result (blocks m) c
  Φ t := match t with
    | ⟨0, _⟩ => iprop(∃ K, entry (blocks m) K c)
    | ⟨_ + 1, _⟩ => leave (blocks m) c
  q _ := fullShare
  owed t := match t with
    | ⟨0, _⟩ => debt c
    | ⟨_ + 1, _⟩ => 0

/-- A buffer held at contents `v`. -/
def holds (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

theorem owns_whole_eq (c : Dev nD) (b : Ref sig .tc) (v : b.ty.Contents (Elt F)) :
    (owns (Ix := Unit) (Name := ℕ) (U := UA) (Lvl := ℕ) (c : Thread nD τ) (Memref.whole b) fullShare v : sProp 𝕄) = holds c b v := by
  unfold owns holds; simp only [Memref.view_whole, View.read_whole, View.set_whole]

/-! ## The body at its place in the program -/

set_option maxRecDepth 4000 in
theorem body_here (c : Dev nD) :
    (iprop((∃ K, entry (blocks m) K c) ∗ (dats m 0 c).owesAt () t0_0.castSucc
      ∗ (∃ d, holds c cc0_stg0_0 ((dats m 0 c).before (0 : Fin 1) t0_0 d))) : sProp 𝕄)
    ⊢ wp frame (wpE (defs₀ (F := F)) 𝒱₀ (c : Thread nD τ) none) Set.univ
      (cc0_body (Memref.whole main_arg0) (Memref.isWhole_whole _) (Memref.whole cc0_stg0_0) (Memref.isWhole_whole _)
        (Memref.whole cc0_scratch0) (Memref.isWhole_whole _) (Memref.whole cc0_scratch1) (Memref.isWhole_whole _)
        cc0_scratch2 cc0_scratch3 cc0_scratch4)
      (fun _ => iprop(leave (blocks m) c ∗ (dats m 0 c).owesAt () t0_0.succ ∗ holds c cc0_stg0_0 (result (blocks m) c))) := by
  unfold holds Dat.owesAt Pipeline.owesWithin
  rw [show (dats m 0 c).owed t0_0.castSucc = debt c from rfl, show (dats m 0 c).owed t0_0.succ = 0 from rfl]
  iintro ⟨⟨%K, He⟩, ⟨%W, -, HO⟩, ⟨%d, %f, -, Hout⟩⟩
  iapply (body_run (blocks m) K c W f _)
  isplitl [He]; · iexact He
  isplitl [HO]; · iexact HO
  isplitl [Hout]; · iexact Hout
  iintro ⟨Hl, ⟨%W', HO⟩, Hout⟩
  isplitl [Hl]; · iexact Hl
  isplitl [HO]
  · iexists W'
    isplitr; · ipureintro; exact fun _ _ => Or.inl trivial
    iexact HO
  iexists _
  isplitr; · ipureintro; rfl
  iexact Hout

set_option maxRecDepth 4000 in
theorem body_obligation (c : Dev nD) : BodyObligation (dats m 0 c) (defs₀ (F := F)) 𝒱₀ () Set.univ := fun t => by
  rw [fin_N0 t, bigSep_W0, bigSep_W0]
  simp only [owns_whole_eq]
  exact body_here m c

/-! ## What the launch hands over and takes back -/

theorem start_intro (c : Dev nD) :
    iprop(Pipeline.unscopedRestP Pipeline.Prefetch.none cfg0.spec c (fun b => m ((c : Thread nD τ).loc b)) ∗ levAts L lv
        ∗ Pipeline.launchCred debt c ∗ prngReg c (ρ c) ∗ dealt (blocks m) c)
      ⊢ |={Set.univ}=> (iprop(start m c ∗ emp) : sProp 𝕄) := by
  rw [Pipeline.unscopedRestP_none, unscopedRest0_eq]
  iintro ⟨Hx, Hlev, Hcr, -, Hd⟩
  ihave Hc := (credit (F := F) c) $$ Hcr
  icases Hc with ⟨Hg, Hc⟩
  imodintro
  unfold start
  isplitl
  · isplitl [Hd]; · iexact Hd
    isplitl [Hx]; · iexact Hx
    isplitl [Hg]; · iexact Hg
    isplitl [Hc] <;> iassumption
  · iempintro

theorem entry_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(∃ K, entry (blocks m) K c) from rfl, scopedRest0_eq]
  unfold start dealt entry store
  iintro ⟨⟨⟨⟨%K, Hk, Hd, Hp⟩, Hcopy⟩, Hx, Hg, Hc, Hlev⟩, -, H0, H1⟩
  iexists K
  isplitl [Hk]; · iexact Hk
  isplitl [Hd]; · iexact Hd
  isplitl [Hp]; · iexact Hp
  isplitl [Hcopy]; · iexact Hcopy
  isplitl [Hx H0 H1]
  · isplitl [Hx]; · iexact Hx
    isplitl [H0] <;> iassumption
  isplitl [Hg]; · iexact Hg
  isplitl [Hc] <;> iassumption

/-- What is kept to be read in the final state: the block, and the barrier at rest. -/
def kept (c : Dev nD) : sProp 𝕄 :=
  iprop((((c : Thread nD τ).loc main_arg0) ↦{fullShare} blocks m c) ∗ unscopedSems0 c)

theorem leave_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = leave (blocks m) c from rfl, scopedRest0_eq, ownSems0_eq]
  unfold kept leave store copySems
  rw [unscopedSems0_eq]
  iintro ⟨⟨Hx, H0, H1⟩, ⟨Ha, Hb, Hc, Hd⟩, Hg, Hs, Hr⟩
  isplitl [Hx Hg]
  · isplitl [Hx]; · iexact Hx
    iexact Hg
  isplitr [H0 H1]
  · isplitl [Ha]; · iexact Ha
    isplitl [Hb]; · iexact Hb
    isplitl [Hc]; · iexact Hc
    isplitl [Hd]; · iexact Hd
    isplitl [Hs] <;> iassumption
  isplitl [H0] <;> iassumption

/-- Reading it: the block is as found and the unscoped counters are zero. -/
theorem kept_read (c : Dev nD) (s' : Phys nD τ sig (Elt F)) :
    (iprop(kept m c ∗ emp ∗ SI s') : sProp 𝕄)
      ⊢ |={Set.univ}=> iprop(⌜s'.mem.mem ((c : Thread nD τ).loc main_arg0) = m ((c : Thread nD τ).loc main_arg0)
          ∧ ∀ sm : SemLoc sig, sm.isScoped .tc = false → s'.mem.sem ((c.tc : Thread nD τ), sm) = 0⌝ ∗ SI s') := by
  unfold kept
  iintro ⟨⟨Hx, Hu⟩, -, HSI⟩
  ihave %hx := (SI_pointsTo_agree (st := s') (ℓ := (c : Thread nD τ).loc main_arg0) (I := Finset.univ) (q := fullShare)
    (f := blocks m c)) $$ [Hx HSI]
  · isplitl [HSI] <;> iassumption
  imod (Pipeline.unscopedSems0_read (X := (unscopedSems0 c : sProp 𝕄)) (c := c) fupd_intro s') $$ [Hu HSI] with ⟨%hu, HSI⟩
  · isplitl [Hu] <;> iassumption
  imodintro
  isplitr
  · ipureintro; exact ⟨funext fun i => hx i (Finset.mem_univ i), hu⟩
  iexact HSI

/-- The output's own semaphore has no part in the exchange, -/
theorem stage_role : ∀ (w : Fin cfg0.W) (s : Fin (cfg0.spec w).nbuf), role (.dma ((cfg0.spec w).sem s)) = none := by decide

/-- so its waits come before everything owed. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact may_wait_debt c _ (congrArg (fun r : Option Role => r.elim 0 height) (stage_role w s))
    · show (levAts L lv : sProp 𝕄) ⊢ MayWait (c : Thread nD τ) _ () 0
      rw [MayWait_zero]; iintro -; iempintro

theorem share_eq (c : Dev nD) (w : Fin cfg0.W) : (dats m 0 c).share w = fullShare := by unfold Dat.share; split <;> rfl

/-- What the output array holds after the body: the device's row of maxima. -/
theorem arr_out (c : Dev nD) : (dats m 0 c).arrAt (0 : Fin 1) cfg0.N = result (blocks m) c := by
  have hz : (fun a => (win0_0.index (0 : Fin 1)) a * main_v1.ty.shape.size a) = fun _ => 0 :=
    funext fun a => by fin_cases a <;> decide
  refine (Memref.read_access_unit_zero (Elt F) main_v1 hz (fun a => by fin_cases a <;> decide) _).symm.trans ?_
  rw [show cfg0.N = ((0 : Fin 1) : Fin cfg0.N).val + 1 from rfl, (dats m 0 c).arrAt_succ (0 : Fin 1) (0 : Fin 1),
    show (cfg0.win (0 : Fin 1)).flush (0 : Fin 1) = true from by decide, if_pos rfl]
  exact View.read_write_univ _ _

/-! ## The run -/

/-- The final states: outputs, blocks, and all counters at zero. -/
def Ends (s : MemSt nD τ sig (Elt F)) : Prop :=
  (∀ c : Dev nD, s.mem ((c : Thread nD τ).loc main_v1) = result (blocks m) c
    ∧ s.mem ((c : Thread nD τ).loc main_arg0) = m ((c : Thread nD τ).loc main_arg0)) ∧ s.sem = fun _ => 0

set_option maxRecDepth 8000 in
/-- On the mesh of four devices, from any memory with zero counters, every weakly fair execution of the program ends,
    and ends so. -/
theorem run_main : θ_run defs (onTc (τ := τ) (main (F := F))) ⟨m, fun _ => 0, ρ⟩ (fun r => Ends m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) Ep defs₀ 𝒱₀ m ρ main
    (hmain := fun _ => rfl)
    (hbody := body_obligation m) (hne := block_pos0) (harr := arr_whole0) (hstage := stage_whole0) (hshare := share_eq m)
    (hdistinct := winFacts0.arr_inj)
    (O₀ := debt) (howed₀ := fun _ => rfl) (howedN := fun _ => rfl)
    (L := L) (lv := lv) (hL := L_other) (hwaits := waits m)
    (G := fresh (blocks m)) (G' := dealt (blocks m)) (u₀ := u₀)
    (hu₀ := by
      unfold u₀
      iintro Hu
      ihave H := (ownU_pair _ _) $$ Hu
      icases H with ⟨HP, HR⟩
      ihave H := (own_pair_emb (embR (A := UR sig nD τ) (B := UX × Counters)) _ _) $$ HR
      icases H with ⟨HX, -⟩
      imod (fresh_intro (blocks m)) $$ HX with HG
      imodintro
      isplitl [HP] <;> iassumption)
    (hglob := dealt_intro (blocks m))
    (hA := fun _ _ => rfl) (hpf := fun _ k => k.elim0)
    (X := start m) (Y := kept m) (Z := fun _ => iprop(emp))
    (hX := start_intro m ρ) (hin := entry_intro m) (hout := leave_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := kept_read m)
    (hQ := fun _ h hs => ⟨fun c => ⟨((h c).1 (0 : Fin 1)).trans (arr_out m c), (h c).2.2.1⟩, sem_eq_zero hs fun c => (h c).2.2.2⟩)

end Cert.ColMax

end
-- ==== Proof.Bound.lean ====
module

public import proofs.«01_k».proof.Proof.Body
public import Idealize.ShloMosaic.Lib.ValueIdx
public import Idealize.ShloMosaic.Lib.ValueLayout
public import Idealize.ShloMosaic.PureOps.Ideal.Laws

@[expose] public section

/-!
The kernel's rows over the extended reals. A maximum is determined by the numbers at or above it, so every row here is
described by them: a number is at or above an entry just when it is at or above the least number the maximum starts
from (`least`) and every number of the column.
-/

noncomputable section

namespace Cert.ColMax

open Cert.KernelIdeal Cert.KernelIdeal.Gen

open Idealize.ShloMosaic
open Idealize.ShloMosaic.ValueIdx

/-- What every maximum starts from: the bfloat16 pattern of minus infinity. -/
abbrev least : EReal := FloatOps.ofBits (F := Ideal) .bf16 0xFF80#16

/-- A matrix of 512 rows read at its column maxima. -/
theorem chunk_le (v : FVec Ideal S512x1024 .bf16) (j : Fin 1024) (M : EReal) :
    multiReduction (F := Ideal) .maximumf [0] S1024 v 0xFF80#16 reduces_S512x1024_S1024 (.inr rfl) rfl (ix1 j) ≤ M
      ↔ least ≤ M ∧ ∀ r : Fin 512, v (ix2 r j) ≤ M := by
  refine (iff_of_eq (congrArg (· ≤ M) (Ideal.multiReduction_maximumf_single v _ reduces_S512x1024_S1024 (.inr rfl) rfl (ix1 j)))).trans ?_
  rw [Finset.fold_max_le]
  refine and_congr_right fun _ => ⟨fun h r => ?_, fun h r _ => ?_⟩
  · exact (congrArg v (eq_ix2 _)).symm.trans_le (h r (Finset.mem_univ _))
  · exact (congrArg v (eq_ix2 _)).trans_le (h r)

/-- The row of column maxima of a chunk, -/
theorem pay3_apply (v : Vec Ideal S1x512x1024 .bf16) (j : Fin 1024) :
    k0_pay3 v (ix2 (0 : Fin 1) j)
      = multiReduction (F := Ideal) .maximumf [0] S1024 (shapeCast S512x1024 v shapeCasts_S1x512x1024_S512x1024 : FVec Ideal S512x1024 .bf16)
          0xFF80#16 reduces_S512x1024_S1024 (.inr rfl) rfl (ix1 j) := by
  unfold k0_pay3
  exact shapeCast_a_1a_apply _ _ _ _

theorem pay3_le (v : Vec Ideal S1x512x1024 .bf16) (j : Fin 1024) (M : EReal) :
    k0_pay3 v (ix2 (0 : Fin 1) j) ≤ M ↔ least ≤ M ∧ ∀ r : Fin 512, v (ix3 (0 : Fin 1) r j) ≤ M := by
  rw [pay3_apply]
  refine (chunk_le _ j M).trans ?_
  refine and_congr_right fun _ => forall_congr' fun r => ?_
  rw [show (shapeCast S512x1024 v shapeCasts_S1x512x1024_S512x1024 : FVec Ideal S512x1024 .bf16) (ix2 r j) = v (ix3 (0 : Fin 1) r j) from
    shapeCast_1ab_ab_apply v _ r j]

/-- the same under a leading axis of length one, -/
theorem pay2_apply (v : Vec Ideal S1x512x1024 .bf16) (j : Fin 1024) :
    k0_pay2 v (ix3 (0 : Fin 1) (0 : Fin 1) j) = k0_pay3 v (ix2 (0 : Fin 1) j) := by
  unfold k0_pay2 k0_pay3
  exact shapeCast_ab_1ab_apply _ _ _ _ _

theorem pay2_le (v : Vec Ideal S1x512x1024 .bf16) (j : Fin 1024) (M : EReal) :
    k0_pay2 v (ix3 (0 : Fin 1) (0 : Fin 1) j) ≤ M ↔ least ≤ M ∧ ∀ r : Fin 512, v (ix3 (0 : Fin 1) r j) ≤ M := by
  rw [pay2_apply, pay3_le]

/-- the maximum of a row with what was found before, -/
theorem pay4_le (u : FVec Ideal S1x1024 .bf16) (a : Vec Ideal S1x1x1024 .bf16) (j : Fin 1024) (M : EReal) :
    k0_pay4 u a (ix3 0 0 j) ≤ M ↔ a (ix3 0 0 j) ≤ M ∧ u (ix2 0 j) ≤ M := by
  unfold k0_pay4
  rw [show shapeCast S1x1x1024 _ shapeCasts_S1x1024_S1x1x1024 (ix3 (0 : Fin 1) (0 : Fin 1) j) = _ from
    shapeCast_ab_1ab_apply _ _ _ _ _]
  show max (shapeCast S1x1024 a shapeCasts_S1x1x1024_S1x1024 (ix2 (0 : Fin 1) j)) (u (ix2 0 j)) ≤ M ↔ _
  rw [show shapeCast S1x1024 a shapeCasts_S1x1x1024_S1x1024 (ix2 (0 : Fin 1) j) = _ from shapeCast_1ab_ab_apply _ _ _ _]
  exact max_le_iff

/-- and of a chunk with what was found before. -/
theorem pay5_eq (v : Vec Ideal S1x512x1024 .bf16) (a : Vec Ideal S1x1x1024 .bf16) : k0_pay5 v a = k0_pay4 (k0_pay3 v) a := rfl
theorem pay6_eq (v : Vec Ideal S1x512x1024 .bf16) (a : Vec Ideal S1x1x1024 .bf16) : k0_pay6 v a = k0_pay4 (k0_pay3 v) a := rfl

/-- The maximum of two rows. -/
theorem pay1_le (a b : Vec Ideal S1x1x1024 .bf16) (j : Fin 1024) (M : EReal) :
    k0_pay1 a b (ix2 0 j) ≤ M ↔ a (ix3 0 0 j) ≤ M ∧ b (ix3 0 0 j) ≤ M := by
  unfold k0_pay1
  show max (shapeCast S1x1024 a shapeCasts_S1x1x1024_S1x1024 (ix2 (0 : Fin 1) j))
    (shapeCast S1x1024 b shapeCasts_S1x1x1024_S1x1024 (ix2 (0 : Fin 1) j)) ≤ M ↔ _
  rw [show shapeCast S1x1024 a shapeCasts_S1x1x1024_S1x1024 (ix2 (0 : Fin 1) j) = _ from shapeCast_1ab_ab_apply _ _ _ _,
    show shapeCast S1x1024 b shapeCasts_S1x1x1024_S1x1024 (ix2 (0 : Fin 1) j) = _ from shapeCast_1ab_ab_apply _ _ _ _]
  exact max_le_iff

/-- The rows of a block are the rows of its four pieces. -/
theorem pieces_le (x : S2048x1024.Idx → Elt Ideal .bf16) (j : Fin 1024) (M : EReal) :
    (∀ r : Fin 2048, x (ix2 r j) ≤ M) ↔ ∀ k : Fin 4, ∀ r : Fin 512, piece x k (ix3 0 r j) ≤ M := by
  refine ⟨fun h k r => h _, fun h r => ?_⟩
  have hr := r.isLt
  refine (congrArg x ?_).trans_le (h ⟨r.val / 512, by omega⟩ ⟨r.val % 512, Nat.mod_lt _ (by decide)⟩)
  refine congrArg (fun q => ix2 q j) (Fin.ext ?_)
  show r.val = 512 * (r.val / 512) + r.val % 512
  omega

/-- What a device finds for its block, column by column. -/
theorem colMax_le (x : S2048x1024.Idx → Elt Ideal .bf16) (j : Fin 1024) (M : EReal) :
    colMax x (ix3 0 0 j) ≤ M ↔ least ≤ M ∧ ∀ r : Fin 2048, x (ix2 r j) ≤ M := by
  unfold colMax
  rw [pay6_eq, pay5_eq, pay4_le, pay4_le, pay4_le, pay2_le, pay3_le, pay3_le, pay3_le, pieces_le]
  constructor
  · rintro ⟨⟨⟨⟨h, h0⟩, -, h1⟩, -, h2⟩, -, h3⟩
    refine ⟨h, fun k => ?_⟩
    fin_cases k <;> assumption
  · rintro ⟨h, hk⟩
    exact ⟨⟨⟨⟨h, hk 0⟩, h, hk 1⟩, h, hk 2⟩, h, hk 3⟩

/-- What it writes out: the maximum over its own block and the block of the device across. -/
theorem result_le (X : Blocks Ideal) (c : Dev nD) (j : Fin 1024) (M : EReal) :
    result X c (ix2 0 j) ≤ M
      ↔ least ≤ M ∧ (∀ r : Fin 2048, X c (ix2 r j) ≤ M) ∧ ∀ r : Fin 2048, X (across c) (ix2 r j) ≤ M := by
  unfold result
  rw [pay1_le, colMax_le, colMax_le]
  tauto

end Cert.ColMax

end
-- ==== Proof.Ref.lean ====
module

public import proofs.«01_k».proof.Proof.Gen.ReferenceIdeal
public import Idealize.ShloMosaic.Lib.StableHlo.Run
public import Idealize.ShloMosaic.Lib.Quiescent
public import Idealize.ShloMosaic.Lib.ValueIdx
public import Idealize.ShloMosaic.Lib.ValueLayout
public import Idealize.ShloMosaic.PureOps.Ideal.Laws

@[expose] public section

/-!
The reference: what its one device computes from the whole array, and its run.
-/

noncomputable section

namespace Cert.ColMax.Ref

open Cert.ReferenceIdeal Cert.ReferenceIdeal.Gen
open Idealize.ShloMosaic Idealize.ShloMosaic.TcCoe Idealize.ShloMosaic.StableHlo Idealize.SL.Sem
open Idealize.ShloMosaic.ValueIdx

variable {F : FTy → Type} [FloatOps F]

/-- The column maxima of the whole array, as one row. -/
def value (x : FVec F S4096x2048 .bf16) : FVec F S1x2048 .bf16 :=
  broadcastInDim S1x2048 ![1] bcast_S2048_S1x2048_1
    (Host.reduce FloatOps.maximumf x (constant S_ .bf16 0xFF80#16) reducesTo_S4096x2048_S2048_d0 h_S_)

/-- The program's three operations. -/
abbrev steps : List (HloOp τ sig (Elt F)) :=
  [nullary main_cst (constant S_ .bf16 0xFF80#16),
   binary main_arg0 main_cst main_v0 (fun x v => Host.reduce FloatOps.maximumf x v reducesTo_S4096x2048_S2048_d0 h_S_),
   unary main_v0 main_v1 (broadcastInDim S1x2048 ![1] bcast_S2048_S1x2048_1)]

theorem main_steps (c : Dev nD) : main (F := F) c = seq steps := rfl

/-- They leave the column maxima in the result's buffer, -/
theorem steps_out (V : Valuation τ sig (Elt F)) :
    after steps V (main_v1 : DevRef τ sig) = value (V (main_arg0 : DevRef τ sig)) := by
  after_results
  rfl

/-- and the argument as it was. -/
theorem steps_arg (V : Valuation τ sig (Elt F)) :
    after steps V (main_arg0 : DevRef τ sig) = V (main_arg0 : DevRef τ sig) := by
  after_results

/-- Every run of the reference ends, with the column maxima in the result's buffer, the argument unchanged, and all
    counters at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v1) = value (m ((c.tc : Thread nD τ).loc main_arg0))
        ∧ r.2.mem ((c.tc : Thread nD τ).loc main_arg0) = m ((c.tc : Thread nD τ).loc main_arg0)) ∧ r.2.sem = fun _ => 0 :=
  (θ_run defs _ _).mono
    (fun r h => ⟨fun c => ⟨(h c main_v1).trans (steps_out _), (h c main_arg0).trans (steps_arg _)⟩,
      sem_eq_zero_of_no_sems (by decide) r.2⟩)
    (run_seq (by decide) (by decide) defs main (fun _ => steps) main_steps
      (fun _ => ⟨nullary_bufs_sub .., binary_bufs_sub .., unary_bufs_sub ..⟩) m ρ)

/-- Over the extended reals a number is at or above an entry of the result just when it is at or above the number the
    maximum starts from and every number of the column. -/
theorem value_le (x : FVec Ideal S4096x2048 .bf16) (j : Fin 2048) (M : EReal) :
    value x (ix2 0 j) ≤ M
      ↔ FloatOps.ofBits (F := Ideal) .bf16 0xFF80#16 ≤ M ∧ ∀ r : Fin 4096, x (ix2 r j) ≤ M := by
  have hr : Shape.Reduces S4096x2048 [0] S2048 := by decide
  have hv : value x (ix2 0 j) = Host.reduce FloatOps.maximumf x (constant (F := Ideal) S_ .bf16 0xFF80#16)
      reducesTo_S4096x2048_S2048_d0 h_S_ (ix1 j) := by
    unfold value
    refine congrArg (Host.reduce FloatOps.maximumf x (constant (F := Ideal) S_ .bf16 0xFF80#16) reducesTo_S4096x2048_S2048_d0 h_S_) ?_
    exact eq_ix1 _
  rw [hv, Host.reduce_eq_fold_single (FloatOps.maximumf (F := Ideal)) x _ reducesTo_S4096x2048_S2048_d0 hr h_S_ (ix1 j)]
  show Finset.fold max _ _ _ ≤ M ↔ _
  rw [Finset.fold_max_le]
  refine and_congr_right fun _ => ⟨fun h r => ?_, fun h r _ => ?_⟩
  · exact (congrArg x (eq_ix2 _)).symm.trans_le (h r (Finset.mem_univ _))
  · exact (congrArg x (eq_ix2 _)).trans_le (h r)

end Cert.ColMax.Ref

end
-- ==== Proof.Agree.lean ====
module

public import proofs.«01_k».proof.Proof.Bound
public import proofs.«01_k».proof.Proof.Ref
public import Idealize.ShloMosaic.Lib.LayoutAt

@[expose] public section

/-!
The devices' rows against the reference's. Device `c` of the mesh holds the block of rows `2048 (c / 2)` on and columns
`1024 (c % 2)` on; it and the device across hold all rows of their columns.
-/

noncomputable section

namespace Cert.ColMax

open Idealize.ShloMosaic
open Idealize.ShloMosaic.ValueIdx
open Cert.KernelIdeal (nD)

variable {α : Type}

/-- Row `r`, column `j` of device `c`'s block, in the whole array. -/
def rowIn (c : Dev nD) (r : Fin 2048) : Fin 4096 := ⟨c.val / 2 * 2048 + r.val, by have : c.val < 4 := c.isLt; omega⟩
def colIn (c : Dev nD) (j : Fin 1024) : Fin 2048 := ⟨c.val % 2 * 1024 + j.val, by omega⟩

theorem mesh_row (c : Dev nD) : Layout.meshLin [2, 2] c.val [0] = c.val / 2 := by revert c; decide
theorem mesh_col (c : Dev nD) : Layout.meshLin [2, 2] c.val [1] = c.val % 2 := by revert c; decide

/-- A device's block of the whole array, read at an index. -/
theorem block_at (A : (⟨2, ![4096, 2048]⟩ : Shape).Idx → α) (c : Dev nD) (r : Fin 2048) (j : Fin 1024) :
    (Layout.blockN ⟨2, ![2048, 1024]⟩ ⟨2, ![4096, 2048]⟩ (Layout.meshBlock [2, 2] ![[0], [1]] c) A) (ix2 r j)
      = A (ix2 (rowIn c r) (colIn c j)) := by
  have h0 := mesh_row c
  have h1 := mesh_col c
  refine congrArg A (Layout.idx_ext fun b => ?_)
  fin_cases b
  · show Layout.meshLin [2, 2] c.val [0] * 2048 + r.val = c.val / 2 * 2048 + r.val
    rw [h0]
  · show Layout.meshLin [2, 2] c.val [1] * 1024 + j.val = c.val % 2 * 1024 + j.val
    rw [h1]

/-- A device's part of the whole result, read at an index. -/
theorem row_at (v : (⟨2, ![1, 2048]⟩ : Shape).Idx → α) (c : Dev nD) (j : Fin 1024) :
    (Layout.blockN ⟨2, ![1, 1024]⟩ ⟨2, ![1, 2048]⟩ (Layout.meshBlock [2, 2] ![[], [1]] c) v) (ix2 (0 : Fin 1) j)
      = v (ix2 (0 : Fin 1) (colIn c j)) := by
  have h1 := mesh_col c
  refine congrArg v (Layout.idx_ext fun b => ?_)
  fin_cases b
  · rfl
  · show Layout.meshLin [2, 2] c.val [1] * 1024 + j.val = c.val % 2 * 1024 + j.val
    rw [h1]

/-- The device across holds the same columns, -/
theorem col_across (c : Dev nD) (j : Fin 1024) : colIn (across c) j = colIn c j :=
  Fin.ext (show (across c).val % 2 * 1024 + j.val = c.val % 2 * 1024 + j.val by
    have : (across c).val % 2 = c.val % 2 := by revert c; decide
    rw [this])

/-- and the two hold every row. -/
theorem rows_both (c : Dev nD) (P : Fin 4096 → Prop) :
    (∀ p, P p) ↔ (∀ r : Fin 2048, P (rowIn c r)) ∧ ∀ r : Fin 2048, P (rowIn (across c) r) := by
  refine ⟨fun h => ⟨fun r => h _, fun r => h _⟩, fun ⟨h, h'⟩ p => ?_⟩
  have hp := p.isLt
  have hc : p.val / 2048 = c.val / 2 ∨ p.val / 2048 = (across c).val / 2 := by
    have hlt : p.val / 2048 < 2 := by omega
    generalize p.val / 2048 = k at hlt
    have : ∀ c : Dev nD, ∀ k < 2, k = c.val / 2 ∨ k = (across c).val / 2 := by decide
    exact this c k hlt
  rcases hc with e | e
  · have := h ⟨p.val % 2048, Nat.mod_lt _ (by decide)⟩
    rwa [show rowIn c ⟨p.val % 2048, Nat.mod_lt _ (by decide)⟩ = p from
      Fin.ext (show c.val / 2 * 2048 + p.val % 2048 = p.val by omega)] at this
  · have := h' ⟨p.val % 2048, Nat.mod_lt _ (by decide)⟩
    rwa [show rowIn (across c) ⟨p.val % 2048, Nat.mod_lt _ (by decide)⟩ = p from
      Fin.ext (show (across c).val / 2 * 2048 + p.val % 2048 = p.val by omega)] at this

/-- Where the devices hold their blocks of `A`, what each writes out is its part of the reference's result for `A`. -/
theorem result_eq (X : Blocks Ideal) (A : FVec Ideal Cert.ReferenceIdeal.S4096x2048 .bf16)
    (hX : ∀ c : Dev nD, X c = Layout.blockN ⟨2, ![2048, 1024]⟩ ⟨2, ![4096, 2048]⟩ (Layout.meshBlock [2, 2] ![[0], [1]] c) A)
    (c : Dev nD) :
    result X c = Layout.blockN ⟨2, ![1, 1024]⟩ ⟨2, ![1, 2048]⟩ (Layout.meshBlock [2, 2] ![[], [1]] c) (Ref.value A) := by
  have hx (d : Dev nD) (r : Fin 2048) (j : Fin 1024) : X d (ix2 r j) = A (ix2 (rowIn d r) (colIn d j)) :=
    (congrFun (hX d) (ix2 r j)).trans (block_at A d r j)
  have hj (j : Fin 1024) : result X c (ix2 (0 : Fin 1) j) = Ref.value A (ix2 (0 : Fin 1) (colIn c j)) := by
    refine eq_of_forall_ge_iff fun M => ?_
    rw [result_le, Ref.value_le, rows_both c]
    simp only [hx, col_across]
  funext i
  have h0 : i 0 = (0 : Fin 1) := Fin.ext (by have : (i 0).val < 1 := (i 0).isLt; show (i 0).val = 0; omega)
  obtain ⟨j, rfl⟩ : ∃ j : Fin 1024, i = ix2 (0 : Fin 1) j := ⟨i 1, (eq_ix2 i).trans (congrArg (fun u => ix2 u (i 1)) h0)⟩
  exact (hj j).trans (row_at (Ref.value A) c j).symm

end Cert.ColMax

end
-- ==== Proof.lean ====
/-
The proof of `Cert.Claim`: the kernel and its idealization run and leave everything else as it was, so does the
reference, and over the extended reals the devices write out their parts of what the reference computes.

* Proof/Protocol.lean: how a device and the one across exchange their rows, and the order of waits;
* Proof/Pieces.lean: what the loads of the run read, and the row a device finds for its block;
* Proof/Body.lean: the kernel's body on one device;
* Proof/Deal.lean: what each device is dealt at the start;
* Proof/Launch.lean: the run on all four devices, over any float values;
* Proof/Bound.lean: the rows over the extended reals;
* Proof/Ref.lean: the reference's run and its value;
* Proof/Agree.lean: the two values agree, part by part.
-/
module

public import proofs.«01_k».proof.Defs
public import proofs.«01_k».proof.Proof.Gen.Kernel
public import proofs.«01_k».proof.Proof.Launch
public import proofs.«01_k».proof.Proof.Agree

@[expose] public section

noncomputable section

namespace Cert.Proof

open Idealize.ShloMosaic Idealize.SL.Sem

/-- The kernel and its idealization are one program under two names: the same bodies, -/
theorem bodies_eq {F : FTy → Type} [FloatOps F] : Cert.Kernel.defs₀ (F := F) = Cert.KernelIdeal.defs₀ (F := F) := by
  unfold Cert.Kernel.defs₀ Cert.KernelIdeal.defs₀
  congr 1
  funext label args
  match label, args with
  | 0, (t, s) => rfl

/-- and so the same table. -/
theorem defs_eq {F : FTy → Type} [FloatOps F] : Cert.Kernel.defs (F := F) = Cert.KernelIdeal.defs (F := F) :=
  congrArg (Pipeline.defs (Cert.KernelIdeal.pcfgs (F := F))) bodies_eq

/-- The kernel runs, its blocks end unchanged and all counters end at zero. -/
theorem frame_kernel : Cert.quiescent_Kernel := fun m ρ _ =>
  (θ_run Cert.Kernel.defs _ _).mono (fun _ h => ⟨fun c => (h.1 c).2, h.2⟩)
    ((congrArg (fun D => θ_run D (onTc (Cert.KernelIdeal.main (F := Bits))) ⟨m, fun _ => 0, ρ⟩ (fun r => Cert.ColMax.Ends m r.2))
      defs_eq).mpr (Cert.ColMax.run_main (F := Bits) m ρ))

/-- So does its idealization, -/
theorem frame_ideal : Cert.quiescent_KernelIdeal := fun m ρ _ =>
  (θ_run Cert.KernelIdeal.defs _ _).mono (fun _ h => ⟨fun c => (h.1 c).2, h.2⟩) (Cert.ColMax.run_main (F := Ideal) m ρ)

/-- and the reference. -/
theorem frame_reference : Cert.quiescent_ReferenceIdeal := fun m ρ _ =>
  (θ_run Cert.ReferenceIdeal.defs _ _).mono (fun _ h => ⟨fun c => (h.1 c).2, h.2⟩) (Cert.ColMax.Ref.run_main (F := Ideal) m ρ)

/-- Over the extended reals each device's result is its part of the reference's. -/
theorem algebraic : Cert.algebraic_KernelIdeal_ReferenceIdeal := fun m ρ m' ρ' _ hm =>
  ⟨Cert.ColMax.Ref.value (F := Ideal)
      (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (Cert.ColMax.result_eq (Cert.ColMax.blocks m) _ hm c), (h.1 c).2⟩)
      (Cert.ColMax.run_main (F := Ideal) m ρ),
    (θ_run Cert.ReferenceIdeal.defs _ _).mono (fun _ h => h.1 0) (Cert.ColMax.Ref.run_main (F := Ideal) m' ρ')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
